-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_finite_in_range [hPre_finite_in_range : Cert.Pre_finite_in_range.Facts] (m : (ℓ : Loc Cert.KernelIdeal.nD Cert.KernelIdeal.τ Cert.KernelIdeal.sig) → Buf (Elt Ideal) ℓ) : Prop :=
  ∀ c : Dev Cert.KernelIdeal.nD,
    (Cert.Pre_finite_in_range.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14)) (m ((c.tc : Thread Cert.KernelIdeal.nD Cert.KernelIdeal.τ).loc Cert.KernelIdeal.main_arg15)) (m ((c.tc : Thread Cert.KernelIdeal.nD Cert.KernelIdeal.τ).loc Cert.KernelIdeal.main_arg16))).1 = (fun _ => 1#1)
    ∧ (Cert.Pre_finite_in_range.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14)) (m ((c.tc : Thread Cert.KernelIdeal.nD Cert.KernelIdeal.τ).loc Cert.KernelIdeal.main_arg15)) (m ((c.tc : Thread Cert.KernelIdeal.nD Cert.KernelIdeal.τ).loc Cert.KernelIdeal.main_arg16))).2.1 = (fun _ => 1#1)
    ∧ (Cert.Pre_finite_in_range.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14)) (m ((c.tc : Thread Cert.KernelIdeal.nD Cert.KernelIdeal.τ).loc Cert.KernelIdeal.main_arg15)) (m ((c.tc : Thread Cert.KernelIdeal.nD Cert.KernelIdeal.τ).loc Cert.KernelIdeal.main_arg16))).2.2.1 = (fun _ => 1#1)
    ∧ (Cert.Pre_finite_in_range.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14)) (m ((c.tc : Thread Cert.KernelIdeal.nD Cert.KernelIdeal.τ).loc Cert.KernelIdeal.main_arg15)) (m ((c.tc : Thread Cert.KernelIdeal.nD Cert.KernelIdeal.τ).loc Cert.KernelIdeal.main_arg16))).2.2.2.1 = (fun _ => 1#1)
    ∧ (Cert.Pre_finite_in_range.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14)) (m ((c.tc : Thread Cert.KernelIdeal.nD Cert.KernelIdeal.τ).loc Cert.KernelIdeal.main_arg15)) (m ((c.tc : Thread Cert.KernelIdeal.nD Cert.KernelIdeal.τ).loc Cert.KernelIdeal.main_arg16))).2.2.2.2.1 = (fun _ => 1#1)
    ∧ (Cert.Pre_finite_in_range.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14)) (m ((c.tc : Thread Cert.KernelIdeal.nD Cert.KernelIdeal.τ).loc Cert.KernelIdeal.main_arg15)) (m ((c.tc : Thread Cert.KernelIdeal.nD Cert.KernelIdeal.τ).loc Cert.KernelIdeal.main_arg16))).2.2.2.2.2.1 = (fun _ => 1#1)
    ∧ (Cert.Pre_finite_in_range.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14)) (m ((c.tc : Thread Cert.KernelIdeal.nD Cert.KernelIdeal.τ).loc Cert.KernelIdeal.main_arg15)) (m ((c.tc : Thread Cert.KernelIdeal.nD Cert.KernelIdeal.τ).loc Cert.KernelIdeal.main_arg16))).2.2.2.2.2.2.1 = (fun _ => 1#1)
    ∧ (Cert.Pre_finite_in_range.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14)) (m ((c.tc : Thread Cert.KernelIdeal.nD Cert.KernelIdeal.τ).loc Cert.KernelIdeal.main_arg15)) (m ((c.tc : Thread Cert.KernelIdeal.nD Cert.KernelIdeal.τ).loc Cert.KernelIdeal.main_arg16))).2.2.2.2.2.2.2.1 = (fun _ => 1#1)
    ∧ (Cert.Pre_finite_in_range.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14)) (m ((c.tc : Thread Cert.KernelIdeal.nD Cert.KernelIdeal.τ).loc Cert.KernelIdeal.main_arg15)) (m ((c.tc : Thread Cert.KernelIdeal.nD Cert.KernelIdeal.τ).loc Cert.KernelIdeal.main_arg16))).2.2.2.2.2.2.2.2 = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_finite_in_range [hPre_finite_in_range : Cert.Pre_finite_in_range.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_in_range.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13)) (m ((c.tc : Thread Cert.ReferenceIdeal.nD Cert.ReferenceIdeal.τ).loc Cert.ReferenceIdeal.main_arg14)) (m ((c.tc : Thread Cert.ReferenceIdeal.nD Cert.ReferenceIdeal.τ).loc Cert.ReferenceIdeal.main_arg15)) (m ((c.tc : Thread Cert.ReferenceIdeal.nD Cert.ReferenceIdeal.τ).loc Cert.ReferenceIdeal.main_arg16))).1 = (fun _ => 1#1)
    ∧ (Cert.Pre_finite_in_range.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13)) (m ((c.tc : Thread Cert.ReferenceIdeal.nD Cert.ReferenceIdeal.τ).loc Cert.ReferenceIdeal.main_arg14)) (m ((c.tc : Thread Cert.ReferenceIdeal.nD Cert.ReferenceIdeal.τ).loc Cert.ReferenceIdeal.main_arg15)) (m ((c.tc : Thread Cert.ReferenceIdeal.nD Cert.ReferenceIdeal.τ).loc Cert.ReferenceIdeal.main_arg16))).2.1 = (fun _ => 1#1)
    ∧ (Cert.Pre_finite_in_range.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13)) (m ((c.tc : Thread Cert.ReferenceIdeal.nD Cert.ReferenceIdeal.τ).loc Cert.ReferenceIdeal.main_arg14)) (m ((c.tc : Thread Cert.ReferenceIdeal.nD Cert.ReferenceIdeal.τ).loc Cert.ReferenceIdeal.main_arg15)) (m ((c.tc : Thread Cert.ReferenceIdeal.nD Cert.ReferenceIdeal.τ).loc Cert.ReferenceIdeal.main_arg16))).2.2.1 = (fun _ => 1#1)
    ∧ (Cert.Pre_finite_in_range.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13)) (m ((c.tc : Thread Cert.ReferenceIdeal.nD Cert.ReferenceIdeal.τ).loc Cert.ReferenceIdeal.main_arg14)) (m ((c.tc : Thread Cert.ReferenceIdeal.nD Cert.ReferenceIdeal.τ).loc Cert.ReferenceIdeal.main_arg15)) (m ((c.tc : Thread Cert.ReferenceIdeal.nD Cert.ReferenceIdeal.τ).loc Cert.ReferenceIdeal.main_arg16))).2.2.2.1 = (fun _ => 1#1)
    ∧ (Cert.Pre_finite_in_range.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13)) (m ((c.tc : Thread Cert.ReferenceIdeal.nD Cert.ReferenceIdeal.τ).loc Cert.ReferenceIdeal.main_arg14)) (m ((c.tc : Thread Cert.ReferenceIdeal.nD Cert.ReferenceIdeal.τ).loc Cert.ReferenceIdeal.main_arg15)) (m ((c.tc : Thread Cert.ReferenceIdeal.nD Cert.ReferenceIdeal.τ).loc Cert.ReferenceIdeal.main_arg16))).2.2.2.2.1 = (fun _ => 1#1)
    ∧ (Cert.Pre_finite_in_range.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13)) (m ((c.tc : Thread Cert.ReferenceIdeal.nD Cert.ReferenceIdeal.τ).loc Cert.ReferenceIdeal.main_arg14)) (m ((c.tc : Thread Cert.ReferenceIdeal.nD Cert.ReferenceIdeal.τ).loc Cert.ReferenceIdeal.main_arg15)) (m ((c.tc : Thread Cert.ReferenceIdeal.nD Cert.ReferenceIdeal.τ).loc Cert.ReferenceIdeal.main_arg16))).2.2.2.2.2.1 = (fun _ => 1#1)
    ∧ (Cert.Pre_finite_in_range.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13)) (m ((c.tc : Thread Cert.ReferenceIdeal.nD Cert.ReferenceIdeal.τ).loc Cert.ReferenceIdeal.main_arg14)) (m ((c.tc : Thread Cert.ReferenceIdeal.nD Cert.ReferenceIdeal.τ).loc Cert.ReferenceIdeal.main_arg15)) (m ((c.tc : Thread Cert.ReferenceIdeal.nD Cert.ReferenceIdeal.τ).loc Cert.ReferenceIdeal.main_arg16))).2.2.2.2.2.2.1 = (fun _ => 1#1)
    ∧ (Cert.Pre_finite_in_range.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13)) (m ((c.tc : Thread Cert.ReferenceIdeal.nD Cert.ReferenceIdeal.τ).loc Cert.ReferenceIdeal.main_arg14)) (m ((c.tc : Thread Cert.ReferenceIdeal.nD Cert.ReferenceIdeal.τ).loc Cert.ReferenceIdeal.main_arg15)) (m ((c.tc : Thread Cert.ReferenceIdeal.nD Cert.ReferenceIdeal.τ).loc Cert.ReferenceIdeal.main_arg16))).2.2.2.2.2.2.2.1 = (fun _ => 1#1)
    ∧ (Cert.Pre_finite_in_range.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13)) (m ((c.tc : Thread Cert.ReferenceIdeal.nD Cert.ReferenceIdeal.τ).loc Cert.ReferenceIdeal.main_arg14)) (m ((c.tc : Thread Cert.ReferenceIdeal.nD Cert.ReferenceIdeal.τ).loc Cert.ReferenceIdeal.main_arg15)) (m ((c.tc : Thread Cert.ReferenceIdeal.nD Cert.ReferenceIdeal.τ).loc Cert.ReferenceIdeal.main_arg16))).2.2.2.2.2.2.2.2 = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11)
      ∧ r.2.mem ((c.tc : Thread Cert.Kernel.nD Cert.Kernel.τ).loc Cert.Kernel.main_arg12) = m ((c.tc : Thread Cert.Kernel.nD Cert.Kernel.τ).loc Cert.Kernel.main_arg12)
      ∧ r.2.mem ((c.tc : Thread Cert.Kernel.nD Cert.Kernel.τ).loc Cert.Kernel.main_arg13) = m ((c.tc : Thread Cert.Kernel.nD Cert.Kernel.τ).loc Cert.Kernel.main_arg13)
      ∧ r.2.mem ((c.tc : Thread Cert.Kernel.nD Cert.Kernel.τ).loc Cert.Kernel.main_arg14) = m ((c.tc : Thread Cert.Kernel.nD Cert.Kernel.τ).loc Cert.Kernel.main_arg14)
      ∧ r.2.mem ((c.tc : Thread Cert.Kernel.nD Cert.Kernel.τ).loc Cert.Kernel.main_arg15) = m ((c.tc : Thread Cert.Kernel.nD Cert.Kernel.τ).loc Cert.Kernel.main_arg15)
      ∧ r.2.mem ((c.tc : Thread Cert.Kernel.nD Cert.Kernel.τ).loc Cert.Kernel.main_arg16) = m ((c.tc : Thread Cert.Kernel.nD Cert.Kernel.τ).loc Cert.Kernel.main_arg16))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
      ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
      ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
      ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15)
      ∧ r.2.mem ((c.tc : Thread Cert.KernelIdeal.nD Cert.KernelIdeal.τ).loc Cert.KernelIdeal.main_arg16) = m ((c.tc : Thread Cert.KernelIdeal.nD Cert.KernelIdeal.τ).loc Cert.KernelIdeal.main_arg16))
      ∧ r.2.sem = fun _ => 0)

def quiescent_KernelIdeal_pre_finite_in_range [hKernelIdeal : Cert.KernelIdeal.Facts] [hPre_finite_in_range : Cert.Pre_finite_in_range.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_finite_in_range m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
      ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
      ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
      ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15)
      ∧ r.2.mem ((c.tc : Thread Cert.KernelIdeal.nD Cert.KernelIdeal.τ).loc Cert.KernelIdeal.main_arg16) = m ((c.tc : Thread Cert.KernelIdeal.nD Cert.KernelIdeal.τ).loc Cert.KernelIdeal.main_arg16))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12)
      ∧ r.2.mem ((c.tc : Thread Cert.ReferenceIdeal.nD Cert.ReferenceIdeal.τ).loc Cert.ReferenceIdeal.main_arg13) = m ((c.tc : Thread Cert.ReferenceIdeal.nD Cert.ReferenceIdeal.τ).loc Cert.ReferenceIdeal.main_arg13)
      ∧ r.2.mem ((c.tc : Thread Cert.ReferenceIdeal.nD Cert.ReferenceIdeal.τ).loc Cert.ReferenceIdeal.main_arg14) = m ((c.tc : Thread Cert.ReferenceIdeal.nD Cert.ReferenceIdeal.τ).loc Cert.ReferenceIdeal.main_arg14)
      ∧ r.2.mem ((c.tc : Thread Cert.ReferenceIdeal.nD Cert.ReferenceIdeal.τ).loc Cert.ReferenceIdeal.main_arg15) = m ((c.tc : Thread Cert.ReferenceIdeal.nD Cert.ReferenceIdeal.τ).loc Cert.ReferenceIdeal.main_arg15)
      ∧ r.2.mem ((c.tc : Thread Cert.ReferenceIdeal.nD Cert.ReferenceIdeal.τ).loc Cert.ReferenceIdeal.main_arg16) = m ((c.tc : Thread Cert.ReferenceIdeal.nD Cert.ReferenceIdeal.τ).loc Cert.ReferenceIdeal.main_arg16))
      ∧ r.2.sem = fun _ => 0)

def quiescent_ReferenceIdeal_pre_finite_in_range [hReferenceIdeal : Cert.ReferenceIdeal.Facts] [hPre_finite_in_range : Cert.Pre_finite_in_range.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_finite_in_range m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12)
      ∧ r.2.mem ((c.tc : Thread Cert.ReferenceIdeal.nD Cert.ReferenceIdeal.τ).loc Cert.ReferenceIdeal.main_arg13) = m ((c.tc : Thread Cert.ReferenceIdeal.nD Cert.ReferenceIdeal.τ).loc Cert.ReferenceIdeal.main_arg13)
      ∧ r.2.mem ((c.tc : Thread Cert.ReferenceIdeal.nD Cert.ReferenceIdeal.τ).loc Cert.ReferenceIdeal.main_arg14) = m ((c.tc : Thread Cert.ReferenceIdeal.nD Cert.ReferenceIdeal.τ).loc Cert.ReferenceIdeal.main_arg14)
      ∧ r.2.mem ((c.tc : Thread Cert.ReferenceIdeal.nD Cert.ReferenceIdeal.τ).loc Cert.ReferenceIdeal.main_arg15) = m ((c.tc : Thread Cert.ReferenceIdeal.nD Cert.ReferenceIdeal.τ).loc Cert.ReferenceIdeal.main_arg15)
      ∧ r.2.mem ((c.tc : Thread Cert.ReferenceIdeal.nD Cert.ReferenceIdeal.τ).loc Cert.ReferenceIdeal.main_arg16) = m ((c.tc : Thread Cert.ReferenceIdeal.nD Cert.ReferenceIdeal.τ).loc Cert.ReferenceIdeal.main_arg16))
      ∧ r.2.sem = fun _ => 0)

def preserves_Kernel_KernelIdeal : Prop :=
  IdealRules.named_const.Statement Cert.KernelIdeal.κ "neg_alpha" .f32 0xC13851EC#32 ((-288 / 25 : ℝ) : EReal)

def algebraic_KernelIdeal_ReferenceIdeal_pre_finite_in_range [hKernelIdeal : Cert.KernelIdeal.Facts] [hReferenceIdeal : Cert.ReferenceIdeal.Facts] [hPre_finite_in_range : Cert.Pre_finite_in_range.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_finite_in_range m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)
      ∧ m' ((c.tc : Thread Cert.ReferenceIdeal.nD Cert.ReferenceIdeal.τ).loc Cert.ReferenceIdeal.main_arg12) = m ((c.tc : Thread Cert.KernelIdeal.nD Cert.KernelIdeal.τ).loc Cert.KernelIdeal.main_arg12)
      ∧ m' ((c.tc : Thread Cert.ReferenceIdeal.nD Cert.ReferenceIdeal.τ).loc Cert.ReferenceIdeal.main_arg13) = m ((c.tc : Thread Cert.KernelIdeal.nD Cert.KernelIdeal.τ).loc Cert.KernelIdeal.main_arg13)
      ∧ m' ((c.tc : Thread Cert.ReferenceIdeal.nD Cert.ReferenceIdeal.τ).loc Cert.ReferenceIdeal.main_arg14) = m ((c.tc : Thread Cert.KernelIdeal.nD Cert.KernelIdeal.τ).loc Cert.KernelIdeal.main_arg14)
      ∧ m' ((c.tc : Thread Cert.ReferenceIdeal.nD Cert.ReferenceIdeal.τ).loc Cert.ReferenceIdeal.main_arg15) = m ((c.tc : Thread Cert.KernelIdeal.nD Cert.KernelIdeal.τ).loc Cert.KernelIdeal.main_arg15)
      ∧ m' ((c.tc : Thread Cert.ReferenceIdeal.nD Cert.ReferenceIdeal.τ).loc Cert.ReferenceIdeal.main_arg16) = m ((c.tc : Thread Cert.KernelIdeal.nD Cert.KernelIdeal.τ).loc Cert.KernelIdeal.main_arg16)) →
    ∃ (v0 : (c : Dev Cert.KernelIdeal.nD) → Buf (Elt Ideal) ((c.tc : Thread Cert.KernelIdeal.nD Cert.KernelIdeal.τ).loc Cert.KernelIdeal.main_v0)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v0) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
          ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
          ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
          ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
          ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15)
          ∧ r.2.mem ((c.tc : Thread Cert.KernelIdeal.nD Cert.KernelIdeal.τ).loc Cert.KernelIdeal.main_arg16) = m ((c.tc : Thread Cert.KernelIdeal.nD Cert.KernelIdeal.τ).loc Cert.KernelIdeal.main_arg16))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v189) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11)
          ∧ r.2.mem ((c.tc : Thread Cert.ReferenceIdeal.nD Cert.ReferenceIdeal.τ).loc Cert.ReferenceIdeal.main_arg12) = m' ((c.tc : Thread Cert.ReferenceIdeal.nD Cert.ReferenceIdeal.τ).loc Cert.ReferenceIdeal.main_arg12)
          ∧ r.2.mem ((c.tc : Thread Cert.ReferenceIdeal.nD Cert.ReferenceIdeal.τ).loc Cert.ReferenceIdeal.main_arg13) = m' ((c.tc : Thread Cert.ReferenceIdeal.nD Cert.ReferenceIdeal.τ).loc Cert.ReferenceIdeal.main_arg13)
          ∧ r.2.mem ((c.tc : Thread Cert.ReferenceIdeal.nD Cert.ReferenceIdeal.τ).loc Cert.ReferenceIdeal.main_arg14) = m' ((c.tc : Thread Cert.ReferenceIdeal.nD Cert.ReferenceIdeal.τ).loc Cert.ReferenceIdeal.main_arg14)
          ∧ r.2.mem ((c.tc : Thread Cert.ReferenceIdeal.nD Cert.ReferenceIdeal.τ).loc Cert.ReferenceIdeal.main_arg15) = m' ((c.tc : Thread Cert.ReferenceIdeal.nD Cert.ReferenceIdeal.τ).loc Cert.ReferenceIdeal.main_arg15)
          ∧ r.2.mem ((c.tc : Thread Cert.ReferenceIdeal.nD Cert.ReferenceIdeal.τ).loc Cert.ReferenceIdeal.main_arg16) = m' ((c.tc : Thread Cert.ReferenceIdeal.nD Cert.ReferenceIdeal.τ).loc Cert.ReferenceIdeal.main_arg16))

def Claim : Prop :=
  ∃ (hKernel : Cert.Kernel.Facts) (hKernelIdeal : Cert.KernelIdeal.Facts) (hReferenceIdeal : Cert.ReferenceIdeal.Facts) (hPre_finite_in_range : Cert.Pre_finite_in_range.Facts),
    quiescent_Kernel (hKernel := hKernel)
    ∧ quiescent_KernelIdeal (hKernelIdeal := hKernelIdeal)
    ∧ quiescent_KernelIdeal_pre_finite_in_range (hKernelIdeal := hKernelIdeal) (hPre_finite_in_range := hPre_finite_in_range)
    ∧ quiescent_ReferenceIdeal (hReferenceIdeal := hReferenceIdeal)
    ∧ quiescent_ReferenceIdeal_pre_finite_in_range (hReferenceIdeal := hReferenceIdeal) (hPre_finite_in_range := hPre_finite_in_range)
    ∧ preserves_Kernel_KernelIdeal
    ∧ algebraic_KernelIdeal_ReferenceIdeal_pre_finite_in_range (hKernelIdeal := hKernelIdeal) (hReferenceIdeal := hReferenceIdeal) (hPre_finite_in_range := hPre_finite_in_range)
-- ==== Pre_finite_in_range.lean ====
abbrev S16x128x3 : Shape := ⟨3, ![16, 128, 3]⟩
abbrev S16x128 : Shape := ⟨2, ![16, 128]⟩
abbrev S5x128 : Shape := ⟨2, ![5, 128]⟩
abbrev S3x25x64 : Shape := ⟨3, ![3, 25, 64]⟩
abbrev S3x64 : Shape := ⟨2, ![3, 64]⟩
abbrev S3x64x64 : Shape := ⟨3, ![3, 64, 64]⟩
abbrev S3x128x64 : Shape := ⟨3, ![3, 128, 64]⟩
abbrev S3x64x128 : Shape := ⟨3, ![3, 64, 128]⟩
abbrev S3x128 : Shape := ⟨2, ![3, 128]⟩
abbrev S3x128x128 : Shape := ⟨3, ![3, 128, 128]⟩
abbrev S128x128 : Shape := ⟨2, ![128, 128]⟩
abbrev S128 : Shape := ⟨1, ![128]⟩
abbrev S128x1 : Shape := ⟨2, ![128, 1]⟩
abbrev S1 : Shape := ⟨1, ![1]⟩
abbrev S_ : Shape := ⟨0, ![]⟩
abbrev S2x128x128 : Shape := ⟨3, ![2, 128, 128]⟩
abbrev S2x128 : Shape := ⟨2, ![2, 128]⟩

class Facts : Prop where
  bcast_S_S16x128x3 : S_.BroadcastsInDim S16x128x3 (![] : Fin 0 → Fin S16x128x3.rank)
  bcast_S_S16x128 : S_.BroadcastsInDim S16x128 (![] : Fin 0 → Fin S16x128.rank)
  bcast_S_S5x128 : S_.BroadcastsInDim S5x128 (![] : Fin 0 → Fin S5x128.rank)
  bcast_S_S3x64x64 : S_.BroadcastsInDim S3x64x64 (![] : Fin 0 → Fin S3x64x64.rank)
  bcast_S_S3x64 : S_.BroadcastsInDim S3x64 (![] : Fin 0 → Fin S3x64.rank)
  bcast_S_S3x128x64 : S_.BroadcastsInDim S3x128x64 (![] : Fin 0 → Fin S3x128x64.rank)
  slices_S3x128x128_S2x128x128_0_0_0 : S3x128x128.Slices ![0, 0, 0] S2x128x128
  bcast_S_S2x128x128 : S_.BroadcastsInDim S2x128x128 (![] : Fin 0 → Fin S2x128x128.rank)
  slices_S3x128_S2x128_0_0 : S3x128.Slices ![0, 0] S2x128
  bcast_S_S2x128 : S_.BroadcastsInDim S2x128 (![] : Fin 0 → Fin S2x128.rank)

variable [Facts]

def fn_part3 {F : FTy → Type} [FloatOps F] (main_v5 : IVec S16x128x3 1) (main_v10 : IVec S16x128 1) (main_v16 : IVec S5x128 1) (main_v22 : IVec S3x64x64 1) (main_v28 : IVec S3x64 1) (main_v34 : IVec S3x128x64 1) (main_v40 : IVec S3x64 1) (main_v47 : IVec S2x128x128 1) (main_v50 : IVec S2x128 1) (main_v53 : IVec S2x128 1) : IVec S16x128x3 1 × IVec S16x128 1 × IVec S5x128 1 × IVec S3x64x64 1 × IVec S3x64 1 × IVec S3x128x64 1 × IVec S3x64 1 × IVec S2x128x128 1 × IVec S2x128 1 :=
  let main_v54 : IVec S2x128 1 := andi main_v50 main_v53
  (main_v5, main_v10, main_v16, main_v22, main_v28, main_v34, main_v40, main_v47, main_v54)

def fn_part2 {F : FTy → Type} [FloatOps F] (main_arg8 : FVec F S3x64 .f32) (main_arg11 : FVec F S3x128x128 .f32) (main_arg12 : FVec F S3x128 .f32) (main_v5 : IVec S16x128x3 1) (main_v10 : IVec S16x128 1) (main_v16 : IVec S5x128 1) (main_v22 : IVec S3x64x64 1) (main_v28 : IVec S3x64 1) (main_v34 : IVec S3x128x64 1) (main_cst_10 : FVec F S_ .f32) : IVec S16x128x3 1 × IVec S16x128 1 × IVec S5x128 1 × IVec S3x64x64 1 × IVec S3x64 1 × IVec S3x128x64 1 × IVec S3x64 1 × IVec S2x128x128 1 × IVec S2x128 1 :=
  let main_v35 : FVec F S3x64 .f32 := broadcastInDim S3x64 ![] bcast_S_S3x64 main_cst_10
  let main_v36 : IVec S3x64 1 := cmpf .olt main_arg8 main_v35
  let main_cst_11 : FVec F S_ .f32 := constant S_ .f32 0x7F800000#32
  let main_v37 : FVec F S_ .f32 := Host.negf main_cst_11
  let main_v38 : FVec F S3x64 .f32 := broadcastInDim S3x64 ![] bcast_S_S3x64 main_v37
  let main_v39 : IVec S3x64 1 := cmpf .ogt main_arg8 main_v38
  let main_v40 : IVec S3x64 1 := andi main_v36 main_v39
  let main_v41 : FVec F S2x128x128 .f32 := (extractStridedSlice S2x128x128 ![0, 0, 0] · slices_S3x128x128_S2x128x128_0_0_0) main_arg11
  let main_cst_12 : FVec F S_ .f32 := constant S_ .f32 0x7F800000#32
  let main_v42 : FVec F S2x128x128 .f32 := broadcastInDim S2x128x128 ![] bcast_S_S2x128x128 main_cst_12
  let main_v43 : IVec S2x128x128 1 := cmpf .olt main_v41 main_v42
  let main_cst_13 : FVec F S_ .f32 := constant S_ .f32 0x7F800000#32
  let main_v44 : FVec F S_ .f32 := Host.negf main_cst_13
  let main_v45 : FVec F S2x128x128 .f32 := broadcastInDim S2x128x128 ![] bcast_S_S2x128x128 main_v44
  let main_v46 : IVec S2x128x128 1 := cmpf .ogt main_v41 main_v45
  let main_v47 : IVec S2x128x128 1 := andi main_v43 main_v46
  let main_v48 : FVec F S2x128 .f32 := (extractStridedSlice S2x128 ![0, 0] · slices_S3x128_S2x128_0_0) main_arg12
  let main_cst_14 : FVec F S_ .f32 := constant S_ .f32 0x7F800000#32
  let main_v49 : FVec F S2x128 .f32 := broadcastInDim S2x128 ![] bcast_S_S2x128 main_cst_14
  let main_v50 : IVec S2x128 1 := cmpf .olt main_v48 main_v49
  let main_cst_15 : FVec F S_ .f32 := constant S_ .f32 0x7F800000#32
  let main_v51 : FVec F S_ .f32 := Host.negf main_cst_15
  let main_v52 : FVec F S2x128 .f32 := broadcastInDim S2x128 ![] bcast_S_S2x128 main_v51
  let main_v53 : IVec S2x128 1 := cmpf .ogt main_v48 main_v52
  fn_part3 (F := F) main_v5 main_v10 main_v16 main_v22 main_v28 main_v34 main_v40 main_v47 main_v50 main_v53

def fn_part1 {F : FTy → Type} [FloatOps F] (main_arg5 : FVec F S3x64x64 .f32) (main_arg6 : FVec F S3x64 .f32) (main_arg7 : FVec F S3x128x64 .f32) (main_arg8 : FVec F S3x64 .f32) (main_arg11 : FVec F S3x128x128 .f32) (main_arg12 : FVec F S3x128 .f32) (main_v5 : IVec S16x128x3 1) (main_v10 : IVec S16x128 1) (main_v16 : IVec S5x128 1) (main_cst_4 : FVec F S_ .f32) : IVec S16x128x3 1 × IVec S16x128 1 × IVec S5x128 1 × IVec S3x64x64 1 × IVec S3x64 1 × IVec S3x128x64 1 × IVec S3x64 1 × IVec S2x128x128 1 × IVec S2x128 1 :=
  let main_v17 : FVec F S3x64x64 .f32 := broadcastInDim S3x64x64 ![] bcast_S_S3x64x64 main_cst_4
  let main_v18 : IVec S3x64x64 1 := cmpf .olt main_arg5 main_v17
  let main_cst_5 : FVec F S_ .f32 := constant S_ .f32 0x7F800000#32
  let main_v19 : FVec F S_ .f32 := Host.negf main_cst_5
  let main_v20 : FVec F S3x64x64 .f32 := broadcastInDim S3x64x64 ![] bcast_S_S3x64x64 main_v19
  let main_v21 : IVec S3x64x64 1 := cmpf .ogt main_arg5 main_v20
  let main_v22 : IVec S3x64x64 1 := andi main_v18 main_v21
  let main_cst_6 : FVec F S_ .f32 := constant S_ .f32 0x7F800000#32
  let main_v23 : FVec F S3x64 .f32 := broadcastInDim S3x64 ![] bcast_S_S3x64 main_cst_6
  let main_v24 : IVec S3x64 1 := cmpf .olt main_arg6 main_v23
  let main_cst_7 : FVec F S_ .f32 := constant S_ .f32 0x7F800000#32
  let main_v25 : FVec F S_ .f32 := Host.negf main_cst_7
  let main_v26 : FVec F S3x64 .f32 := broadcastInDim S3x64 ![] bcast_S_S3x64 main_v25
  let main_v27 : IVec S3x64 1 := cmpf .ogt main_arg6 main_v26
  let main_v28 : IVec S3x64 1 := andi main_v24 main_v27
  let main_cst_8 : FVec F S_ .f32 := constant S_ .f32 0x7F800000#32
  let main_v29 : FVec F S3x128x64 .f32 := broadcastInDim S3x128x64 ![] bcast_S_S3x128x64 main_cst_8
  let main_v30 : IVec S3x128x64 1 := cmpf .olt main_arg7 main_v29
  let main_cst_9 : FVec F S_ .f32 := constant S_ .f32 0x7F800000#32
  let main_v31 : FVec F S_ .f32 := Host.negf main_cst_9
  let main_v32 : FVec F S3x128x64 .f32 := broadcastInDim S3x128x64 ![] bcast_S_S3x128x64 main_v31
  let main_v33 : IVec S3x128x64 1 := cmpf .ogt main_arg7 main_v32
  let main_v34 : IVec S3x128x64 1 := andi main_v30 main_v33
  let main_cst_10 : FVec F S_ .f32 := constant S_ .f32 0x7F800000#32
  fn_part2 (F := F) main_arg8 main_arg11 main_arg12 main_v5 main_v10 main_v16 main_v22 main_v28 main_v34 main_cst_10

def fn {F : FTy → Type} [FloatOps F] (main_arg0 : FVec F S16x128x3 .f32) (main_arg1 : IVec S16x128 32) (main_arg2 : FVec F S5x128 .f32) (main_arg3 : FVec F S3x25x64 .f32) (main_arg4 : FVec F S3x64 .f32) (main_arg5 : FVec F S3x64x64 .f32) (main_arg6 : FVec F S3x64 .f32) (main_arg7 : FVec F S3x128x64 .f32) (main_arg8 : FVec F S3x64 .f32) (main_arg9 : FVec F S3x64x128 .f32) (main_arg10 : FVec F S3x128 .f32) (main_arg11 : FVec F S3x128x128 .f32) (main_arg12 : FVec F S3x128 .f32) (main_arg13 : FVec F S128x128 .f32) (main_arg14 : FVec F S128 .f32) (main_arg15 : FVec F S128x1 .f32) (main_arg16 : FVec F S1 .f32) : IVec S16x128x3 1 × IVec S16x128 1 × IVec S5x128 1 × IVec S3x64x64 1 × IVec S3x64 1 × IVec S3x128x64 1 × IVec S3x64 1 × IVec S2x128x128 1 × IVec S2x128 1 :=
  let main_cst : FVec F S_ .f32 := constant S_ .f32 0x7F800000#32
  let main_v0 : FVec F S16x128x3 .f32 := broadcastInDim S16x128x3 ![] bcast_S_S16x128x3 main_cst
  let main_v1 : IVec S16x128x3 1 := cmpf .olt main_arg0 main_v0
  let main_cst_0 : FVec F S_ .f32 := constant S_ .f32 0x7F800000#32
  let main_v2 : FVec F S_ .f32 := Host.negf main_cst_0
  let main_v3 : FVec F S16x128x3 .f32 := broadcastInDim S16x128x3 ![] bcast_S_S16x128x3 main_v2
  let main_v4 : IVec S16x128x3 1 := cmpf .ogt main_arg0 main_v3
  let main_v5 : IVec S16x128x3 1 := andi main_v1 main_v4
  let main_c : IVec S_ 32 := constantI S_ 32 0#32
  let main_v6 : IVec S16x128 32 := broadcastInDim S16x128 ![] bcast_S_S16x128 main_c
  let main_v7 : IVec S16x128 1 := cmpi .sge main_arg1 main_v6
  let main_c_1 : IVec S_ 32 := constantI S_ 32 5#32
  let main_v8 : IVec S16x128 32 := broadcastInDim S16x128 ![] bcast_S_S16x128 main_c_1
  let main_v9 : IVec S16x128 1 := cmpi .slt main_arg1 main_v8
  let main_v10 : IVec S16x128 1 := andi main_v7 main_v9
  let main_cst_2 : FVec F S_ .f32 := constant S_ .f32 0x7F800000#32
  let main_v11 : FVec F S5x128 .f32 := broadcastInDim S5x128 ![] bcast_S_S5x128 main_cst_2
  let main_v12 : IVec S5x128 1 := cmpf .olt main_arg2 main_v11
  let main_cst_3 : FVec F S_ .f32 := constant S_ .f32 0x7F800000#32
  let main_v13 : FVec F S_ .f32 := Host.negf main_cst_3
  let main_v14 : FVec F S5x128 .f32 := broadcastInDim S5x128 ![] bcast_S_S5x128 main_v13
  let main_v15 : IVec S5x128 1 := cmpf .ogt main_arg2 main_v14
  let main_v16 : IVec S5x128 1 := andi main_v12 main_v15
  let main_cst_4 : FVec F S_ .f32 := constant S_ .f32 0x7F800000#32
  fn_part1 (F := F) main_arg5 main_arg6 main_arg7 main_arg8 main_arg11 main_arg12 main_v5 main_v10 main_v16 main_cst_4
-- ==== Kernel.lean ====
abbrev S16x128x3 : Shape := ⟨3, ![16, 128, 3]⟩
abbrev S16x128 : Shape := ⟨2, ![16, 128]⟩
abbrev S5x128 : Shape := ⟨2, ![5, 128]⟩
abbrev S3x25x64 : Shape := ⟨3, ![3, 25, 64]⟩
abbrev S3x64 : Shape := ⟨2, ![3, 64]⟩
abbrev S3x64x64 : Shape := ⟨3, ![3, 64, 64]⟩
abbrev S3x128x64 : Shape := ⟨3, ![3, 128, 64]⟩
abbrev S3x64x128 : Shape := ⟨3, ![3, 64, 128]⟩
abbrev S3x128 : Shape := ⟨2, ![3, 128]⟩
abbrev S3x128x128 : Shape := ⟨3, ![3, 128, 128]⟩
abbrev S128x128 : Shape := ⟨2, ![128, 128]⟩
abbrev S128 : Shape := ⟨1, ![128]⟩
abbrev S128x1 : Shape := ⟨2, ![128, 1]⟩
abbrev S1 : Shape := ⟨1, ![1]⟩
abbrev S16x128x1 : Shape := ⟨3, ![16, 128, 1]⟩
abbrev S_ : Shape := ⟨0, ![]⟩
abbrev S3x100x256 : Shape := ⟨3, ![3, 100, 256]⟩
abbrev S2 : Shape := ⟨1, ![2]⟩
abbrev S1x3x1x64 : Shape := ⟨4, ![1, 3, 1, 64]⟩
abbrev S1x3x4x64 : Shape := ⟨4, ![1, 3, 4, 64]⟩
abbrev S3x256 : Shape := ⟨2, ![3, 256]⟩
abbrev S1x3x2x64 : Shape := ⟨4, ![1, 3, 2, 64]⟩
abbrev S100 : Shape := ⟨1, ![100]⟩
abbrev S1x100 : Shape := ⟨2, ![1, 100]⟩
abbrev S128x100 : Shape := ⟨2, ![128, 100]⟩
abbrev S24 : Shape := ⟨1, ![24]⟩
abbrev S25 : Shape := ⟨1, ![25]⟩
abbrev S1x25 : Shape := ⟨2, ![1, 25]⟩
abbrev S4x25 : Shape := ⟨2, ![4, 25]⟩
abbrev S16x1x1 : Shape := ⟨3, ![16, 1, 1]⟩
abbrev S1x128x3 : Shape := ⟨3, ![1, 128, 3]⟩
abbrev S1x128x1 : Shape := ⟨3, ![1, 128, 1]⟩
abbrev S1x1x1 : Shape := ⟨3, ![1, 1, 1]⟩
abbrev S3x2x4096x128 : Shape := ⟨4, ![3, 2, 4096, 128]⟩
abbrev S4096x100 : Shape := ⟨2, ![4096, 100]⟩
abbrev S128x3 : Shape := ⟨2, ![128, 3]⟩
abbrev S1x3 : Shape := ⟨2, ![1, 3]⟩
abbrev S1x128 : Shape := ⟨2, ![1, 128]⟩
abbrev S128x1x128 : Shape := ⟨3, ![128, 1, 128]⟩
abbrev S128x32x128 : Shape := ⟨3, ![128, 32, 128]⟩
abbrev S1x32x128 : Shape := ⟨3, ![1, 32, 128]⟩
abbrev S4096x128 : Shape := ⟨2, ![4096, 128]⟩
abbrev S1x100x256 : Shape := ⟨3, ![1, 100, 256]⟩
abbrev S100x256 : Shape := ⟨2, ![100, 256]⟩
abbrev S4096x256 : Shape := ⟨2, ![4096, 256]⟩
abbrev S1x256 : Shape := ⟨2, ![1, 256]⟩
abbrev S256 : Shape := ⟨1, ![256]⟩
abbrev S1x128x128 : Shape := ⟨3, ![1, 128, 128]⟩
abbrev S1x1x4096x128 : Shape := ⟨4, ![1, 1, 4096, 128]⟩
abbrev S1x64 : Shape := ⟨2, ![1, 64]⟩
abbrev S128x5 : Shape := ⟨2, ![128, 5]⟩
abbrev S1x128x64 : Shape := ⟨3, ![1, 128, 64]⟩
abbrev S128x64 : Shape := ⟨2, ![128, 64]⟩
abbrev S64 : Shape := ⟨1, ![64]⟩
abbrev S64x32x128 : Shape := ⟨3, ![64, 32, 128]⟩
abbrev S32x32x128 : Shape := ⟨3, ![32, 32, 128]⟩
abbrev S16x32x128 : Shape := ⟨3, ![16, 32, 128]⟩
abbrev S8x32x128 : Shape := ⟨3, ![8, 32, 128]⟩
abbrev S4x32x128 : Shape := ⟨3, ![4, 32, 128]⟩
abbrev S2x32x128 : Shape := ⟨3, ![2, 32, 128]⟩
abbrev S32x128 : Shape := ⟨2, ![32, 128]⟩
abbrev S32x64 : Shape := ⟨2, ![32, 64]⟩
abbrev S1x64x128 : Shape := ⟨3, ![1, 64, 128]⟩
abbrev S64x128 : Shape := ⟨2, ![64, 128]⟩
abbrev S1x1 : Shape := ⟨2, ![1, 1]⟩

abbrev nBuf : Space → Nat
  | .hbm => 137
  | .vmem => 25
  | .smem => 0
  | _ => 0

abbrev hbmTy0_0 (i : Nat) : BufTy := match i % 128 with
  | 0 => ⟨S16x128x3, .f32⟩
  | 1 => ⟨S16x128, .i32⟩
  | 2 => ⟨S5x128, .f32⟩
  | 3 => ⟨S3x25x64, .f32⟩
  | 4 => ⟨S3x64, .f32⟩
  | 5 => ⟨S3x64x64, .f32⟩
  | 6 => ⟨S3x64, .f32⟩
  | 7 => ⟨S3x128x64, .f32⟩
  | 8 => ⟨S3x64, .f32⟩
  | 9 => ⟨S3x64x128, .f32⟩
  | 10 => ⟨S3x128, .f32⟩
  | 11 => ⟨S3x128x128, .f32⟩
  | 12 => ⟨S3x128, .f32⟩
  | 13 => ⟨S128x128, .f32⟩
  | 14 => ⟨S128, .f32⟩
  | 15 => ⟨S128x1, .f32⟩
  | 16 => ⟨S1, .f32⟩
  | 17 => ⟨S16x128x1, .i32⟩
  | 18 => ⟨S_, .f32⟩
  | 19 => ⟨S3x100x256, .f32⟩
  | 20 => ⟨S_, .i32⟩
  | 21 => ⟨S1, .i32⟩
  | 22 => ⟨S_, .i32⟩
  | 23 => ⟨S1, .i32⟩
  | 24 => ⟨S2, .i32⟩
  | 25 => ⟨S3x100x256, .f32⟩
  | 26 => ⟨S_, .i32⟩
  | 27 => ⟨S1, .i32⟩
  | 28 => ⟨S_, .i32⟩
  | 29 => ⟨S1, .i32⟩
  | 30 => ⟨S2, .i32⟩
  | 31 => ⟨S3x100x256, .f32⟩
  | 32 => ⟨S_, .i32⟩
  | 33 => ⟨S1, .i32⟩
  | 34 => ⟨S_, .i32⟩
  | 35 => ⟨S1, .i32⟩
  | 36 => ⟨S2, .i32⟩
  | 37 => ⟨S3x100x256, .f32⟩
  | 38 => ⟨S_, .i32⟩
  | 39 => ⟨S1, .i32⟩
  | 40 => ⟨S_, .i32⟩
  | 41 => ⟨S1, .i32⟩
  | 42 => ⟨S2, .i32⟩
  | 43 => ⟨S3x100x256, .f32⟩
  | 44 => ⟨S3x100x256, .bf16⟩
  | 45 => ⟨S1x3x1x64, .f32⟩
  | 46 => ⟨S1x3x4x64, .f32⟩
  | 47 => ⟨S3x256, .f32⟩
  | 48 => ⟨S_, .f32⟩
  | 49 => ⟨S3x128x128, .f32⟩
  | 50 => ⟨S_, .i32⟩
  | 51 => ⟨S1, .i32⟩
  | 52 => ⟨S_, .i32⟩
  | 53 => ⟨S1, .i32⟩
  | 54 => ⟨S2, .i32⟩
  | 55 => ⟨S3x128x128, .f32⟩
  | 56 => ⟨S_, .i32⟩
  | 57 => ⟨S1, .i32⟩
  | 58 => ⟨S_, .i32⟩
  | 59 => ⟨S1, .i32⟩
  | 60 => ⟨S2, .i32⟩
  | 61 => ⟨S3x128x128, .f32⟩
  | 62 => ⟨S1x3x1x64, .f32⟩
  | 63 => ⟨S1x3x2x64, .f32⟩
  | 64 => ⟨S3x128, .f32⟩
  | 65 => ⟨S128, .i32⟩
  | 66 => ⟨S128x1, .i32⟩
  | 67 => ⟨S_, .i32⟩
  | 68 => ⟨S_, .i32⟩
  | 69 => ⟨S128x1, .i32⟩
  | 70 => ⟨S128x1, .i32⟩
  | 71 => ⟨S128x1, .i32⟩
  | 72 => ⟨S_, .i32⟩
  | 73 => ⟨S128x1, .i32⟩
  | 74 => ⟨S128x1, .i1⟩
  | 75 => ⟨S128x1, .i32⟩
  | 76 => ⟨S128x1, .i32⟩
  | 77 => ⟨S_, .i32⟩
  | 78 => ⟨S128x1, .i32⟩
  | 79 => ⟨S128x1, .i1⟩
  | 80 => ⟨S128x1, .i1⟩
  | 81 => ⟨S_, .i32⟩
  | 82 => ⟨S128x1, .i32⟩
  | 83 => ⟨S128x1, .i32⟩
  | 84 => ⟨S128x1, .i32⟩
  | 85 => ⟨S100, .i32⟩
  | 86 => ⟨S1x100, .i32⟩
  | 87 => ⟨S_, .i32⟩
  | 88 => ⟨S_, .i32⟩
  | 89 => ⟨S1x100, .i32⟩
  | 90 => ⟨S1x100, .i32⟩
  | 91 => ⟨S1x100, .i32⟩
  | 92 => ⟨S_, .i32⟩
  | 93 => ⟨S1x100, .i32⟩
  | 94 => ⟨S1x100, .i1⟩
  | 95 => ⟨S1x100, .i32⟩
  | 96 => ⟨S1x100, .i32⟩
  | 97 => ⟨S_, .i32⟩
  | 98 => ⟨S1x100, .i32⟩
  | 99 => ⟨S1x100, .i1⟩
  | 100 => ⟨S1x100, .i1⟩
  | 101 => ⟨S_, .i32⟩
  | 102 => ⟨S1x100, .i32⟩
  | 103 => ⟨S1x100, .i32⟩
  | 104 => ⟨S1x100, .i32⟩
  | 105 => ⟨S128x100, .i32⟩
  | 106 => ⟨S128x100, .i32⟩
  | 107 => ⟨S128x100, .i1⟩
  | 108 => ⟨S128x100, .f32⟩
  | 109 => ⟨S_, .f32⟩
  | 110 => ⟨S_, .f32⟩
  | 111 => ⟨S_, .f32⟩
  | 112 => ⟨S_, .f32⟩
  | 113 => ⟨S_, .f32⟩
  | 114 => ⟨S_, .f32⟩
  | 115 => ⟨S_, .f32⟩
  | 116 => ⟨S24, .f32⟩
  | 117 => ⟨S_, .f32⟩
  | 118 => ⟨S24, .f32⟩
  | 119 => ⟨S24, .f32⟩
  | 120 => ⟨S1, .f32⟩
  | 121 => ⟨S_, .f32⟩
  | 122 => ⟨S24, .f32⟩
  | 123 => ⟨S24, .f32⟩
  | 124 => ⟨S24, .f32⟩
  | 125 => ⟨S24, .f32⟩
  | 126 => ⟨S1, .f32⟩
  | 127 => ⟨S24, .f32⟩
  | _ => ⟨S16x128x3, .f32⟩

abbrev hbmTy0_1 (i : Nat) : BufTy := match i % 128 with
  | 0 => ⟨S24, .f32⟩
  | 1 => ⟨S24, .f32⟩
  | 2 => ⟨S1, .f32⟩
  | 3 => ⟨S25, .f32⟩
  | 4 => ⟨S1x25, .f32⟩
  | 5 => ⟨S4x25, .f32⟩
  | 6 => ⟨S100, .f32⟩
  | 7 => ⟨S1x100, .f32⟩
  | 8 => ⟨S16x1x1, .f32⟩
  | _ => ⟨S16x128x3, .f32⟩

abbrev hbmTy (i : Nat) : BufTy := match i / 128 with
  | 0 => hbmTy0_0 i
  | 1 => hbmTy0_1 i
  | _ => ⟨S16x128x3, .f32⟩

abbrev bufTy : (tb : Table) → Fin (tcTables nBuf tb) → BufTy
  | .hbm, ⟨i, _⟩ => hbmTy i
  | .local _ .vmem, ⟨0, _⟩ => ⟨S1x128x3, .f32⟩
  | .local _ .vmem, ⟨1, _⟩ => ⟨S1x128x3, .f32⟩
  | .local _ .vmem, ⟨2, _⟩ => ⟨S1x128x1, .i32⟩
  | .local _ .vmem, ⟨3, _⟩ => ⟨S1x128x1, .i32⟩
  | .local _ .vmem, ⟨4, _⟩ => ⟨S5x128, .f32⟩
  | .local _ .vmem, ⟨5, _⟩ => ⟨S128x100, .f32⟩
  | .local _ .vmem, ⟨6, _⟩ => ⟨S1x100, .f32⟩
  | .local _ .vmem, ⟨7, _⟩ => ⟨S3x100x256, .bf16⟩
  | .local _ .vmem, ⟨8, _⟩ => ⟨S3x256, .f32⟩
  | .local _ .vmem, ⟨9, _⟩ => ⟨S3x128x128, .f32⟩
  | .local _ .vmem, ⟨10, _⟩ => ⟨S3x128, .f32⟩
  | .local _ .vmem, ⟨11, _⟩ => ⟨S3x128x64, .f32⟩
  | .local _ .vmem, ⟨12, _⟩ => ⟨S3x64, .f32⟩
  | .local _ .vmem, ⟨13, _⟩ => ⟨S3x64x128, .f32⟩
  | .local _ .vmem, ⟨14, _⟩ => ⟨S3x128, .f32⟩
  | .local _ .vmem, ⟨15, _⟩ => ⟨S3x128x128, .f32⟩
  | .local _ .vmem, ⟨16, _⟩ => ⟨S3x128, .f32⟩
  | .local _ .vmem, ⟨17, _⟩ => ⟨S128x128, .f32⟩
  | .local _ .vmem, ⟨18, _⟩ => ⟨S128, .f32⟩
  | .local _ .vmem, ⟨19, _⟩ => ⟨S128x1, .f32⟩
  | .local _ .vmem, ⟨20, _⟩ => ⟨S1, .f32⟩
  | .local _ .vmem, ⟨21, _⟩ => ⟨S1x1x1, .f32⟩
  | .local _ .vmem, ⟨22, _⟩ => ⟨S1x1x1, .f32⟩
  | .local _ .vmem, ⟨23, _⟩ => ⟨S3x2x4096x128, .f32⟩
  | .local _ .vmem, ⟨24, _⟩ => ⟨S4096x100, .bf16⟩
  | _, _ => ⟨S16x128x3, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | _, _ => false

abbrev semScoped : Fin 0 → Bool
  | ⟨_, h⟩ => absurd h (Nat.not_lt_zero _)

abbrev dmaSemScoped : Fin 23 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | _ => false

abbrev sig : RefSig :=
  ofTc nBuf bufTy 0 23 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_arg16 : Ref sig .tc := ⟨.hbm, 16, rfl⟩
abbrev main_call0_v0 : Ref sig .tc := ⟨.hbm, 17, rfl⟩
abbrev main_call0_cst : Ref sig .tc := ⟨.hbm, 18, rfl⟩
abbrev main_call0_v1 : Ref sig .tc := ⟨.hbm, 19, rfl⟩
abbrev main_call0_c : Ref sig .tc := ⟨.hbm, 20, rfl⟩
abbrev main_call0_v2 : Ref sig .tc := ⟨.hbm, 21, rfl⟩
abbrev main_call0_c_0 : Ref sig .tc := ⟨.hbm, 22, rfl⟩
abbrev main_call0_v3 : Ref sig .tc := ⟨.hbm, 23, rfl⟩
abbrev main_call0_v4 : Ref sig .tc := ⟨.hbm, 24, rfl⟩
abbrev main_call0_v5 : Ref sig .tc := ⟨.hbm, 25, rfl⟩
abbrev main_call0_c_1 : Ref sig .tc := ⟨.hbm, 26, rfl⟩
abbrev main_call0_v6 : Ref sig .tc := ⟨.hbm, 27, rfl⟩
abbrev main_call0_c_2 : Ref sig .tc := ⟨.hbm, 28, rfl⟩
abbrev main_call0_v7 : Ref sig .tc := ⟨.hbm, 29, rfl⟩
abbrev main_call0_v8 : Ref sig .tc := ⟨.hbm, 30, rfl⟩
abbrev main_call0_v9 : Ref sig .tc := ⟨.hbm, 31, rfl⟩
abbrev main_call0_c_3 : Ref sig .tc := ⟨.hbm, 32, rfl⟩
abbrev main_call0_v10 : Ref sig .tc := ⟨.hbm, 33, rfl⟩
abbrev main_call0_c_4 : Ref sig .tc := ⟨.hbm, 34, rfl⟩
abbrev main_call0_v11 : Ref sig .tc := ⟨.hbm, 35, rfl⟩
abbrev main_call0_v12 : Ref sig .tc := ⟨.hbm, 36, rfl⟩
abbrev main_call0_v13 : Ref sig .tc := ⟨.hbm, 37, rfl⟩
abbrev main_call0_c_5 : Ref sig .tc := ⟨.hbm, 38, rfl⟩
abbrev main_call0_v14 : Ref sig .tc := ⟨.hbm, 39, rfl⟩
abbrev main_call0_c_6 : Ref sig .tc := ⟨.hbm, 40, rfl⟩
abbrev main_call0_v15 : Ref sig .tc := ⟨.hbm, 41, rfl⟩
abbrev main_call0_v16 : Ref sig .tc := ⟨.hbm, 42, rfl⟩
abbrev main_call0_v17 : Ref sig .tc := ⟨.hbm, 43, rfl⟩
abbrev main_call0_v18 : Ref sig .tc := ⟨.hbm, 44, rfl⟩
abbrev main_call0_v19 : Ref sig .tc := ⟨.hbm, 45, rfl⟩
abbrev main_call0_v20 : Ref sig .tc := ⟨.hbm, 46, rfl⟩
abbrev main_call0_v21 : Ref sig .tc := ⟨.hbm, 47, rfl⟩
abbrev main_call0_cst_7 : Ref sig .tc := ⟨.hbm, 48, rfl⟩
abbrev main_call0_v22 : Ref sig .tc := ⟨.hbm, 49, rfl⟩
abbrev main_call0_c_8 : Ref sig .tc := ⟨.hbm, 50, rfl⟩
abbrev main_call0_v23 : Ref sig .tc := ⟨.hbm, 51, rfl⟩
abbrev main_call0_c_9 : Ref sig .tc := ⟨.hbm, 52, rfl⟩
abbrev main_call0_v24 : Ref sig .tc := ⟨.hbm, 53, rfl⟩
abbrev main_call0_v25 : Ref sig .tc := ⟨.hbm, 54, rfl⟩
abbrev main_call0_v26 : Ref sig .tc := ⟨.hbm, 55, rfl⟩
abbrev main_call0_c_10 : Ref sig .tc := ⟨.hbm, 56, rfl⟩
abbrev main_call0_v27 : Ref sig .tc := ⟨.hbm, 57, rfl⟩
abbrev main_call0_c_11 : Ref sig .tc := ⟨.hbm, 58, rfl⟩
abbrev main_call0_v28 : Ref sig .tc := ⟨.hbm, 59, rfl⟩
abbrev main_call0_v29 : Ref sig .tc := ⟨.hbm, 60, rfl⟩
abbrev main_call0_v30 : Ref sig .tc := ⟨.hbm, 61, rfl⟩
abbrev main_call0_v31 : Ref sig .tc := ⟨.hbm, 62, rfl⟩
abbrev main_call0_v32 : Ref sig .tc := ⟨.hbm, 63, rfl⟩
abbrev main_call0_v33 : Ref sig .tc := ⟨.hbm, 64, rfl⟩
abbrev main_call0_v34 : Ref sig .tc := ⟨.hbm, 65, rfl⟩
abbrev main_call0_v35 : Ref sig .tc := ⟨.hbm, 66, rfl⟩
abbrev main_call0_c_12 : Ref sig .tc := ⟨.hbm, 67, rfl⟩
abbrev main_call0_call0_v0 : Ref sig .tc := ⟨.hbm, 68, rfl⟩
abbrev main_call0_call0_v1 : Ref sig .tc := ⟨.hbm, 69, rfl⟩
abbrev main_call0_call0_v2 : Ref sig .tc := ⟨.hbm, 70, rfl⟩
abbrev main_call0_call0_v3 : Ref sig .tc := ⟨.hbm, 71, rfl⟩
abbrev main_call0_call0_v4 : Ref sig .tc := ⟨.hbm, 72, rfl⟩
abbrev main_call0_call0_v5 : Ref sig .tc := ⟨.hbm, 73, rfl⟩
abbrev main_call0_call0_v6 : Ref sig .tc := ⟨.hbm, 74, rfl⟩
abbrev main_call0_call0_v7 : Ref sig .tc := ⟨.hbm, 75, rfl⟩
abbrev main_call0_call0_v8 : Ref sig .tc := ⟨.hbm, 76, rfl⟩
abbrev main_call0_call0_c : Ref sig .tc := ⟨.hbm, 77, rfl⟩
abbrev main_call0_call0_v9 : Ref sig .tc := ⟨.hbm, 78, rfl⟩
abbrev main_call0_call0_v10 : Ref sig .tc := ⟨.hbm, 79, rfl⟩
abbrev main_call0_call0_v11 : Ref sig .tc := ⟨.hbm, 80, rfl⟩
abbrev main_call0_call0_c_0 : Ref sig .tc := ⟨.hbm, 81, rfl⟩
abbrev main_call0_call0_v12 : Ref sig .tc := ⟨.hbm, 82, rfl⟩
abbrev main_call0_call0_v13 : Ref sig .tc := ⟨.hbm, 83, rfl⟩
abbrev main_call0_v36 : Ref sig .tc := ⟨.hbm, 84, rfl⟩
abbrev main_call0_v37 : Ref sig .tc := ⟨.hbm, 85, rfl⟩
abbrev main_call0_v38 : Ref sig .tc := ⟨.hbm, 86, rfl⟩
abbrev main_call0_c_13 : Ref sig .tc := ⟨.hbm, 87, rfl⟩
abbrev main_call0_call1_v0 : Ref sig .tc := ⟨.hbm, 88, rfl⟩
abbrev main_call0_call1_v1 : Ref sig .tc := ⟨.hbm, 89, rfl⟩
abbrev main_call0_call1_v2 : Ref sig .tc := ⟨.hbm, 90, rfl⟩
abbrev main_call0_call1_v3 : Ref sig .tc := ⟨.hbm, 91, rfl⟩
abbrev main_call0_call1_v4 : Ref sig .tc := ⟨.hbm, 92, rfl⟩
abbrev main_call0_call1_v5 : Ref sig .tc := ⟨.hbm, 93, rfl⟩
abbrev main_call0_call1_v6 : Ref sig .tc := ⟨.hbm, 94, rfl⟩
abbrev main_call0_call1_v7 : Ref sig .tc := ⟨.hbm, 95, rfl⟩
abbrev main_call0_call1_v8 : Ref sig .tc := ⟨.hbm, 96, rfl⟩
abbrev main_call0_call1_c : Ref sig .tc := ⟨.hbm, 97, rfl⟩
abbrev main_call0_call1_v9 : Ref sig .tc := ⟨.hbm, 98, rfl⟩
abbrev main_call0_call1_v10 : Ref sig .tc := ⟨.hbm, 99, rfl⟩
abbrev main_call0_call1_v11 : Ref sig .tc := ⟨.hbm, 100, rfl⟩
abbrev main_call0_call1_c_0 : Ref sig .tc := ⟨.hbm, 101, rfl⟩
abbrev main_call0_call1_v12 : Ref sig .tc := ⟨.hbm, 102, rfl⟩
abbrev main_call0_call1_v13 : Ref sig .tc := ⟨.hbm, 103, rfl⟩
abbrev main_call0_v39 : Ref sig .tc := ⟨.hbm, 104, rfl⟩
abbrev main_call0_v40 : Ref sig .tc := ⟨.hbm, 105, rfl⟩
abbrev main_call0_v41 : Ref sig .tc := ⟨.hbm, 106, rfl⟩
abbrev main_call0_v42 : Ref sig .tc := ⟨.hbm, 107, rfl⟩
abbrev main_call0_v43 : Ref sig .tc := ⟨.hbm, 108, rfl⟩
abbrev main_call0_cst_14 : Ref sig .tc := ⟨.hbm, 109, rfl⟩
abbrev main_call0_cst_15 : Ref sig .tc := ⟨.hbm, 110, rfl⟩
abbrev main_call0_call2_v0 : Ref sig .tc := ⟨.hbm, 111, rfl⟩
abbrev main_call0_call2_v1 : Ref sig .tc := ⟨.hbm, 112, rfl⟩
abbrev main_call0_call2_v2 : Ref sig .tc := ⟨.hbm, 113, rfl⟩
abbrev main_call0_call2_cst : Ref sig .tc := ⟨.hbm, 114, rfl⟩
abbrev main_call0_call2_v3 : Ref sig .tc := ⟨.hbm, 115, rfl⟩
abbrev main_call0_call2_v4 : Ref sig .tc := ⟨.hbm, 116, rfl⟩
abbrev main_call0_call2_cst_0 : Ref sig .tc := ⟨.hbm, 117, rfl⟩
abbrev main_call0_call2_v5 : Ref sig .tc := ⟨.hbm, 118, rfl⟩
abbrev main_call0_call2_v6 : Ref sig .tc := ⟨.hbm, 119, rfl⟩
abbrev main_call0_call2_v7 : Ref sig .tc := ⟨.hbm, 120, rfl⟩
abbrev main_call0_call2_cst_1 : Ref sig .tc := ⟨.hbm, 121, rfl⟩
abbrev main_call0_call2_v8 : Ref sig .tc := ⟨.hbm, 122, rfl⟩
abbrev main_call0_call2_v9 : Ref sig .tc := ⟨.hbm, 123, rfl⟩
abbrev main_call0_call2_v10 : Ref sig .tc := ⟨.hbm, 124, rfl⟩
abbrev main_call0_call2_v11 : Ref sig .tc := ⟨.hbm, 125, rfl⟩
abbrev main_call0_call2_v12 : Ref sig .tc := ⟨.hbm, 126, rfl⟩
abbrev main_call0_call2_v13 : Ref sig .tc := ⟨.hbm, 127, rfl⟩
abbrev main_call0_call2_v14 : Ref sig .tc := ⟨.hbm, 128, rfl⟩
abbrev main_call0_call2_v15 : Ref sig .tc := ⟨.hbm, 129, rfl⟩
abbrev main_call0_call2_v16 : Ref sig .tc := ⟨.hbm, 130, rfl⟩
abbrev main_call0_v44 : Ref sig .tc := ⟨.hbm, 131, rfl⟩
abbrev main_call0_v45 : Ref sig .tc := ⟨.hbm, 132, rfl⟩
abbrev main_call0_v46 : Ref sig .tc := ⟨.hbm, 133, rfl⟩
abbrev main_call0_v47 : Ref sig .tc := ⟨.hbm, 134, rfl⟩
abbrev main_call0_v48 : Ref sig .tc := ⟨.hbm, 135, rfl⟩
abbrev main_v0 : Ref sig .tc := ⟨.hbm, 136, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg6_0 : Ref sig .tc := ⟨.vmem, 8, rfl⟩
abbrev cc0_stg7_0 : Ref sig .tc := ⟨.vmem, 9, rfl⟩
abbrev cc0_stg8_0 : Ref sig .tc := ⟨.vmem, 10, rfl⟩
abbrev cc0_stg9_0 : Ref sig .tc := ⟨.vmem, 11, rfl⟩
abbrev cc0_stg10_0 : Ref sig .tc := ⟨.vmem, 12, rfl⟩
abbrev cc0_stg11_0 : Ref sig .tc := ⟨.vmem, 13, rfl⟩
abbrev cc0_stg12_0 : Ref sig .tc := ⟨.vmem, 14, rfl⟩
abbrev cc0_stg13_0 : Ref sig .tc := ⟨.vmem, 15, rfl⟩
abbrev cc0_stg14_0 : Ref sig .tc := ⟨.vmem, 16, rfl⟩
abbrev cc0_stg15_0 : Ref sig .tc := ⟨.vmem, 17, rfl⟩
abbrev cc0_stg16_0 : Ref sig .tc := ⟨.vmem, 18, rfl⟩
abbrev cc0_stg17_0 : Ref sig .tc := ⟨.vmem, 19, rfl⟩
abbrev cc0_stg18_0 : Ref sig .tc := ⟨.vmem, 20, rfl⟩
abbrev cc0_stg19_0 : Ref sig .tc := ⟨.vmem, 21, rfl⟩
abbrev cc0_stg19_1 : Ref sig .tc := ⟨.vmem, 22, rfl⟩
abbrev cc0_scratch0 : Ref sig .tc := ⟨.vmem, 23, rfl⟩
abbrev cc0_scratch1 : Ref sig .tc := ⟨.vmem, 24, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem5_0 : DmaSem sig := 7
abbrev cc0_sem6_0 : DmaSem sig := 8
abbrev cc0_sem7_0 : DmaSem sig := 9
abbrev cc0_sem8_0 : DmaSem sig := 10
abbrev cc0_sem9_0 : DmaSem sig := 11
abbrev cc0_sem10_0 : DmaSem sig := 12
abbrev cc0_sem11_0 : DmaSem sig := 13
abbrev cc0_sem12_0 : DmaSem sig := 14
abbrev cc0_sem13_0 : DmaSem sig := 15
abbrev cc0_sem14_0 : DmaSem sig := 16
abbrev cc0_sem15_0 : DmaSem sig := 17
abbrev cc0_sem16_0 : DmaSem sig := 18
abbrev cc0_sem17_0 : DmaSem sig := 19
abbrev cc0_sem18_0 : DmaSem sig := 20
abbrev cc0_sem19_0 : DmaSem sig := 21
abbrev cc0_sem19_1 : DmaSem sig := 22

abbrev nD : Nat := 1
abbrev τ : Topo := Topo.v7x

variable {F : FTy → Type} [FloatOps F]

abbrev grid0 : Pipeline.Grid := ⟨1, ![16], ![false]⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_1 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_10 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_11 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_12 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_13 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_14 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_15 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_16 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_17 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_18 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_19 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S1x128x3 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S1x128x1 .i32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S5x128 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S128x100 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x100 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S3x100x256 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S3x256 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S3x128x128 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S3x128 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 1 → Memref sig .tc .vmem S3x128x64 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]

abbrev stage0_10 : Fin 1 → Memref sig .tc .vmem S3x64 .f32 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false]

abbrev stage0_11 : Fin 1 → Memref sig .tc .vmem S3x64x128 .f32 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))
abbrev reads0_11 : Fin grid0.rank → Bool := ![false]

abbrev stage0_12 : Fin 1 → Memref sig .tc .vmem S3x128 .f32 := fun | 0 => Memref.whole cc0_stg12_0 | ⟨_ + 1, h⟩ => absurd h (Nat.not_lt.2 (Nat.le_add_left _ _))
abbrev sem0_12 : Fin 1 → DmaSem sig := fun | 0 => cc0_sem12_0 | ⟨_ + 1, h⟩ => absurd h (Nat.not_lt.2 (Nat.le_add_left _ _))
abbrev reads0_12 : Fin grid0.rank → Bool := ![false]

abbrev stage0_13 : Fin 1 → Memref sig .tc .vmem S3x128x128 .f32 := fun | 0 => Memref.whole cc0_stg13_0 | ⟨_ + 1, h⟩ => absurd h (Nat.not_lt.2 (Nat.le_add_left _ _))
abbrev sem0_13 : Fin 1 → DmaSem sig := fun | 0 => cc0_sem13_0 | ⟨_ + 1, h⟩ => absurd h (Nat.not_lt.2 (Nat.le_add_left _ _))
abbrev reads0_13 : Fin grid0.rank → Bool := ![false]

abbrev stage0_14 : Fin 1 → Memref sig .tc .vmem S3x128 .f32 := fun | 0 => Memref.whole cc0_stg14_0 | ⟨_ + 1, h⟩ => absurd h (Nat.not_lt.2 (Nat.le_add_left _ _))
abbrev sem0_14 : Fin 1 → DmaSem sig := fun | 0 => cc0_sem14_0 | ⟨_ + 1, h⟩ => absurd h (Nat.not_lt.2 (Nat.le_add_left _ _))
abbrev reads0_14 : Fin grid0.rank → Bool := ![false]

abbrev stage0_15 : Fin 1 → Memref sig .tc .vmem S128x128 .f32 := fun | 0 => Memref.whole cc0_stg15_0 | ⟨_ + 1, h⟩ => absurd h (Nat.not_lt.2 (Nat.le_add_left _ _))
abbrev sem0_15 : Fin 1 → DmaSem sig := fun | 0 => cc0_sem15_0 | ⟨_ + 1, h⟩ => absurd h (Nat.not_lt.2 (Nat.le_add_left _ _))
abbrev reads0_15 : Fin grid0.rank → Bool := ![false]

abbrev stage0_16 : Fin 1 → Memref sig .tc .vmem S128 .f32 := fun | 0 => Memref.whole cc0_stg16_0 | ⟨_ + 1, h⟩ => absurd h (Nat.not_lt.2 (Nat.le_add_left _ _))
abbrev sem0_16 : Fin 1 → DmaSem sig := fun | 0 => cc0_sem16_0 | ⟨_ + 1, h⟩ => absurd h (Nat.not_lt.2 (Nat.le_add_left _ _))
abbrev reads0_16 : Fin grid0.rank → Bool := ![false]

abbrev stage0_17 : Fin 1 → Memref sig .tc .vmem S128x1 .f32 := fun | 0 => Memref.whole cc0_stg17_0 | ⟨_ + 1, h⟩ => absurd h (Nat.not_lt.2 (Nat.le_add_left _ _))
abbrev sem0_17 : Fin 1 → DmaSem sig := fun | 0 => cc0_sem17_0 | ⟨_ + 1, h⟩ => absurd h (Nat.not_lt.2 (Nat.le_add_left _ _))
abbrev reads0_17 : Fin grid0.rank → Bool := ![false]

abbrev stage0_18 : Fin 1 → Memref sig .tc .vmem S1 .f32 := fun | 0 => Memref.whole cc0_stg18_0 | ⟨_ + 1, h⟩ => absurd h (Nat.not_lt.2 (Nat.le_add_left _ _))
abbrev sem0_18 : Fin 1 → DmaSem sig := fun | 0 => cc0_sem18_0 | ⟨_ + 1, h⟩ => absurd h (Nat.not_lt.2 (Nat.le_add_left _ _))
abbrev reads0_18 : Fin grid0.rank → Bool := ![false]

abbrev stage0_19 : Fin 2 → Memref sig .tc .vmem S1x1x1 .f32 := fun | 0 => Memref.whole cc0_stg19_0 | 1 => Memref.whole cc0_stg19_1 | ⟨_ + 2, h⟩ => absurd h (Nat.not_lt.2 (Nat.le_add_left _ _))
abbrev sem0_19 : Fin 2 → DmaSem sig := fun | 0 => cc0_sem19_0 | 1 => cc0_sem19_1 | ⟨_ + 2, h⟩ => absurd h (Nat.not_lt.2 (Nat.le_add_left _ _))
abbrev reads0_19 : Fin grid0.rank → Bool := ![true]
-- ==== KernelIdeal.lean ====
variable {F : FTy → Type} [FloatOps F] [Named F]
def κ : String → Option EReal := fun
  | "neg_alpha" => some ((-288 / 25 : ℝ) : EReal)
  | _ => none
-- ==== ReferenceIdeal.lean ====
abbrev S16x128x3 : Shape := ⟨3, ![16, 128, 3]⟩
abbrev S16x128 : Shape := ⟨2, ![16, 128]⟩
abbrev S5x128 : Shape := ⟨2, ![5, 128]⟩
abbrev S3x25x64 : Shape := ⟨3, ![3, 25, 64]⟩
abbrev S3x64 : Shape := ⟨2, ![3, 64]⟩
abbrev S3x64x64 : Shape := ⟨3, ![3, 64, 64]⟩
abbrev S3x128x64 : Shape := ⟨3, ![3, 128, 64]⟩
abbrev S3x64x128 : Shape := ⟨3, ![3, 64, 128]⟩
abbrev S3x128 : Shape := ⟨2, ![3, 128]⟩
abbrev S3x128x128 : Shape := ⟨3, ![3, 128, 128]⟩
abbrev S128x128 : Shape := ⟨2, ![128, 128]⟩
abbrev S128 : Shape := ⟨1, ![128]⟩
abbrev S128x1 : Shape := ⟨2, ![128, 1]⟩
abbrev S1 : Shape := ⟨1, ![1]⟩
abbrev S127 : Shape := ⟨1, ![127]⟩
abbrev S1x127 : Shape := ⟨2, ![1, 127]⟩
abbrev S128x127 : Shape := ⟨2, ![128, 127]⟩
abbrev S16256 : Shape := ⟨1, ![16256]⟩
abbrev S_ : Shape := ⟨0, ![]⟩
abbrev S16x128x1 : Shape := ⟨3, ![16, 128, 1]⟩
abbrev S1x1x1 : Shape := ⟨3, ![1, 1, 1]⟩
abbrev S16x128x128 : Shape := ⟨3, ![16, 128, 128]⟩
abbrev S16x128x1x3 : Shape := ⟨4, ![16, 128, 1, 3]⟩
abbrev S16x1x128x3 : Shape := ⟨4, ![16, 1, 128, 3]⟩
abbrev S16x128x128x3 : Shape := ⟨4, ![16, 128, 128, 3]⟩
abbrev S1x128x127x1 : Shape := ⟨4, ![1, 128, 127, 1]⟩
abbrev S128x127x1 : Shape := ⟨3, ![128, 127, 1]⟩
abbrev S16x128x127x3 : Shape := ⟨4, ![16, 128, 127, 3]⟩
abbrev S16x128x127 : Shape := ⟨3, ![16, 128, 127]⟩
abbrev S24 : Shape := ⟨1, ![24]⟩
abbrev S25 : Shape := ⟨1, ![25]⟩
abbrev S16x128x127x1 : Shape := ⟨4, ![16, 128, 127, 1]⟩
abbrev S1x1x1x25 : Shape := ⟨4, ![1, 1, 1, 25]⟩
abbrev S16x128x127x25 : Shape := ⟨4, ![16, 128, 127, 25]⟩
abbrev S1x25x64 : Shape := ⟨3, ![1, 25, 64]⟩
abbrev S25x64 : Shape := ⟨2, ![25, 64]⟩
abbrev S16x128x127x64 : Shape := ⟨4, ![16, 128, 127, 64]⟩
abbrev S1x64 : Shape := ⟨2, ![1, 64]⟩
abbrev S64 : Shape := ⟨1, ![64]⟩
abbrev S1x1x1x64 : Shape := ⟨4, ![1, 1, 1, 64]⟩
abbrev S1x64x64 : Shape := ⟨3, ![1, 64, 64]⟩
abbrev S64x64 : Shape := ⟨2, ![64, 64]⟩
abbrev S1x128x64 : Shape := ⟨3, ![1, 128, 64]⟩
abbrev S128x64 : Shape := ⟨2, ![128, 64]⟩
abbrev S16x128x64 : Shape := ⟨3, ![16, 128, 64]⟩
abbrev S1x1x64 : Shape := ⟨3, ![1, 1, 64]⟩
abbrev S16256x1 : Shape := ⟨2, ![16256, 1]⟩
abbrev S1x1 : Shape := ⟨2, ![1, 1]⟩
abbrev S16x16256x64 : Shape := ⟨3, ![16, 16256, 64]⟩
abbrev S1x64x128 : Shape := ⟨3, ![1, 64, 128]⟩
abbrev S64x128 : Shape := ⟨2, ![64, 128]⟩
abbrev S1x128 : Shape := ⟨2, ![1, 128]⟩
abbrev S1x1x128 : Shape := ⟨3, ![1, 1, 128]⟩
abbrev S1x128x128 : Shape := ⟨3, ![1, 128, 128]⟩
abbrev S16x1 : Shape := ⟨2, ![16, 1]⟩
abbrev S16x1x1 : Shape := ⟨3, ![16, 1, 1]⟩

abbrev nBuf : Space → Nat
  | .hbm => 347
  | .vmem => 0
  | .smem => 0
  | _ => 0

abbrev hbmTy0_0 (i : Nat) : BufTy := match i % 128 with
  | 0 => ⟨S16x128x3, .f32⟩
  | 1 => ⟨S16x128, .i32⟩
  | 2 => ⟨S5x128, .f32⟩
  | 3 => ⟨S3x25x64, .f32⟩
  | 4 => ⟨S3x64, .f32⟩
  | 5 => ⟨S3x64x64, .f32⟩
  | 6 => ⟨S3x64, .f32⟩
  | 7 => ⟨S3x128x64, .f32⟩
  | 8 => ⟨S3x64, .f32⟩
  | 9 => ⟨S3x64x128, .f32⟩
  | 10 => ⟨S3x128, .f32⟩
  | 11 => ⟨S3x128x128, .f32⟩
  | 12 => ⟨S3x128, .f32⟩
  | 13 => ⟨S128x128, .f32⟩
  | 14 => ⟨S128, .f32⟩
  | 15 => ⟨S128x1, .f32⟩
  | 16 => ⟨S1, .f32⟩
  | 17 => ⟨S127, .i32⟩
  | 18 => ⟨S1x127, .i32⟩
  | 19 => ⟨S128, .i32⟩
  | 20 => ⟨S128x1, .i32⟩
  | 21 => ⟨S128x127, .i32⟩
  | 22 => ⟨S128x127, .i32⟩
  | 23 => ⟨S128x127, .i1⟩
  | 24 => ⟨S128x127, .i32⟩
  | 25 => ⟨S128x127, .i32⟩
  | 26 => ⟨S128x127, .i32⟩
  | 27 => ⟨S16256, .i32⟩
  | 28 => ⟨S_, .i32⟩
  | 29 => ⟨S16x128, .i32⟩
  | 30 => ⟨S16x128, .i1⟩
  | 31 => ⟨S_, .i32⟩
  | 32 => ⟨S16x128, .i32⟩
  | 33 => ⟨S16x128, .i32⟩
  | 34 => ⟨S16x128, .i32⟩
  | 35 => ⟨S16x128x1, .i32⟩
  | 36 => ⟨S1, .i32⟩
  | 37 => ⟨S_, .i32⟩
  | 38 => ⟨S16x128x1, .i32⟩
  | 39 => ⟨S16x128x1, .i1⟩
  | 40 => ⟨S1x1x1, .i32⟩
  | 41 => ⟨S16x128x1, .i32⟩
  | 42 => ⟨S16x128x1, .i1⟩
  | 43 => ⟨S16x128x1, .i1⟩
  | 44 => ⟨S_, .i1⟩
  | 45 => ⟨S16x128, .i1⟩
  | 46 => ⟨S16x128x128, .f32⟩
  | 47 => ⟨S16x128x128, .i1⟩
  | 48 => ⟨S_, .f32⟩
  | 49 => ⟨S16x128x128, .f32⟩
  | 50 => ⟨S16x128x128, .f32⟩
  | 51 => ⟨S16x128x1x3, .f32⟩
  | 52 => ⟨S16x1x128x3, .f32⟩
  | 53 => ⟨S16x128x128x3, .f32⟩
  | 54 => ⟨S16x128x128x3, .f32⟩
  | 55 => ⟨S16x128x128x3, .f32⟩
  | 56 => ⟨S1x128x127x1, .i32⟩
  | 57 => ⟨S_, .i32⟩
  | 58 => ⟨S1x128x127x1, .i32⟩
  | 59 => ⟨S1x128x127x1, .i1⟩
  | 60 => ⟨S_, .i32⟩
  | 61 => ⟨S1x128x127x1, .i32⟩
  | 62 => ⟨S1x128x127x1, .i32⟩
  | 63 => ⟨S1x128x127x1, .i32⟩
  | 64 => ⟨S128x127x1, .i32⟩
  | 65 => ⟨S1, .i32⟩
  | 66 => ⟨S_, .i32⟩
  | 67 => ⟨S128x127x1, .i32⟩
  | 68 => ⟨S128x127x1, .i1⟩
  | 69 => ⟨S1x1x1, .i32⟩
  | 70 => ⟨S128x127x1, .i32⟩
  | 71 => ⟨S128x127x1, .i1⟩
  | 72 => ⟨S128x127x1, .i1⟩
  | 73 => ⟨S_, .i1⟩
  | 74 => ⟨S128x127, .i1⟩
  | 75 => ⟨S16x128x127x3, .f32⟩
  | 76 => ⟨S16x128x127x3, .i1⟩
  | 77 => ⟨S_, .f32⟩
  | 78 => ⟨S16x128x127x3, .f32⟩
  | 79 => ⟨S16x128x127x3, .f32⟩
  | 80 => ⟨S16x128x127x3, .f32⟩
  | 81 => ⟨S_, .f32⟩
  | 82 => ⟨S16x128x127, .f32⟩
  | 83 => ⟨S16x128x127, .f32⟩
  | 84 => ⟨S_, .f32⟩
  | 85 => ⟨S_, .f32⟩
  | 86 => ⟨S_, .f32⟩
  | 87 => ⟨S_, .f32⟩
  | 88 => ⟨S_, .f32⟩
  | 89 => ⟨S_, .f32⟩
  | 90 => ⟨S_, .f32⟩
  | 91 => ⟨S24, .f32⟩
  | 92 => ⟨S_, .f32⟩
  | 93 => ⟨S24, .f32⟩
  | 94 => ⟨S24, .f32⟩
  | 95 => ⟨S1, .f32⟩
  | 96 => ⟨S_, .f32⟩
  | 97 => ⟨S24, .f32⟩
  | 98 => ⟨S24, .f32⟩
  | 99 => ⟨S24, .f32⟩
  | 100 => ⟨S24, .f32⟩
  | 101 => ⟨S1, .f32⟩
  | 102 => ⟨S24, .f32⟩
  | 103 => ⟨S24, .f32⟩
  | 104 => ⟨S24, .f32⟩
  | 105 => ⟨S1, .f32⟩
  | 106 => ⟨S25, .f32⟩
  | 107 => ⟨S1, .f32⟩
  | 108 => ⟨S_, .f32⟩
  | 109 => ⟨S1, .f32⟩
  | 110 => ⟨S_, .f32⟩
  | 111 => ⟨S_, .f32⟩
  | 112 => ⟨S_, .f32⟩
  | 113 => ⟨S_, .f32⟩
  | 114 => ⟨S_, .f32⟩
  | 115 => ⟨S_, .f32⟩
  | 116 => ⟨S16x128x127x1, .f32⟩
  | 117 => ⟨S1x1x1x25, .f32⟩
  | 118 => ⟨S16x128x127x25, .f32⟩
  | 119 => ⟨S16x128x127x25, .f32⟩
  | 120 => ⟨S16x128x127x25, .f32⟩
  | 121 => ⟨S16x128x127x25, .f32⟩
  | 122 => ⟨S16x128x127x25, .f32⟩
  | 123 => ⟨S16x128x127x25, .f32⟩
  | 124 => ⟨S16x128x127x25, .f32⟩
  | 125 => ⟨S1x25x64, .f32⟩
  | 126 => ⟨S25x64, .f32⟩
  | 127 => ⟨S16x128x127x64, .f32⟩
  | _ => ⟨S16x128x3, .f32⟩

abbrev hbmTy0_1 (i : Nat) : BufTy := match i % 128 with
  | 0 => ⟨S1x64, .f32⟩
  | 1 => ⟨S64, .f32⟩
  | 2 => ⟨S1x1x1x64, .f32⟩
  | 3 => ⟨S16x128x127x64, .f32⟩
  | 4 => ⟨S16x128x127x64, .f32⟩
  | 5 => ⟨S16x128x127x64, .f32⟩
  | 6 => ⟨S1x64x64, .f32⟩
  | 7 => ⟨S64x64, .f32⟩
  | 8 => ⟨S16x128x127x64, .f32⟩
  | 9 => ⟨S1x64, .f32⟩
  | 10 => ⟨S64, .f32⟩
  | 11 => ⟨S1x1x1x64, .f32⟩
  | 12 => ⟨S16x128x127x64, .f32⟩
  | 13 => ⟨S16x128x127x64, .f32⟩
  | 14 => ⟨S1x128x64, .f32⟩
  | 15 => ⟨S128x64, .f32⟩
  | 16 => ⟨S16x128x64, .f32⟩
  | 17 => ⟨S1x64, .f32⟩
  | 18 => ⟨S64, .f32⟩
  | 19 => ⟨S1x1x64, .f32⟩
  | 20 => ⟨S16x128x64, .f32⟩
  | 21 => ⟨S16x128x64, .f32⟩
  | 22 => ⟨S_, .i32⟩
  | 23 => ⟨S16256, .i32⟩
  | 24 => ⟨S16256, .i1⟩
  | 25 => ⟨S_, .i32⟩
  | 26 => ⟨S16256, .i32⟩
  | 27 => ⟨S16256, .i32⟩
  | 28 => ⟨S16256, .i32⟩
  | 29 => ⟨S16256x1, .i32⟩
  | 30 => ⟨S1, .i32⟩
  | 31 => ⟨S_, .i32⟩
  | 32 => ⟨S16256x1, .i32⟩
  | 33 => ⟨S16256x1, .i1⟩
  | 34 => ⟨S1x1, .i32⟩
  | 35 => ⟨S16256x1, .i32⟩
  | 36 => ⟨S16256x1, .i1⟩
  | 37 => ⟨S16256x1, .i1⟩
  | 38 => ⟨S_, .i1⟩
  | 39 => ⟨S16256, .i1⟩
  | 40 => ⟨S16x16256x64, .f32⟩
  | 41 => ⟨S16x16256x64, .i1⟩
  | 42 => ⟨S_, .f32⟩
  | 43 => ⟨S16x16256x64, .f32⟩
  | 44 => ⟨S16x16256x64, .f32⟩
  | 45 => ⟨S16x128x127x64, .f32⟩
  | 46 => ⟨S16x128x127x64, .f32⟩
  | 47 => ⟨S_, .f32⟩
  | 48 => ⟨S16x128x64, .f32⟩
  | 49 => ⟨S1x64x128, .f32⟩
  | 50 => ⟨S64x128, .f32⟩
  | 51 => ⟨S16x128x128, .f32⟩
  | 52 => ⟨S1x128, .f32⟩
  | 53 => ⟨S128, .f32⟩
  | 54 => ⟨S1x1x128, .f32⟩
  | 55 => ⟨S16x128x128, .f32⟩
  | 56 => ⟨S16x128x128, .f32⟩
  | 57 => ⟨S16x128x128, .f32⟩
  | 58 => ⟨S1x128x128, .f32⟩
  | 59 => ⟨S128x128, .f32⟩
  | 60 => ⟨S16x128x128, .f32⟩
  | 61 => ⟨S1x128, .f32⟩
  | 62 => ⟨S128, .f32⟩
  | 63 => ⟨S1x1x128, .f32⟩
  | 64 => ⟨S16x128x128, .f32⟩
  | 65 => ⟨S16x128x128, .f32⟩
  | 66 => ⟨S16x128x128, .f32⟩
  | 67 => ⟨S1x25x64, .f32⟩
  | 68 => ⟨S25x64, .f32⟩
  | 69 => ⟨S16x128x127x64, .f32⟩
  | 70 => ⟨S1x64, .f32⟩
  | 71 => ⟨S64, .f32⟩
  | 72 => ⟨S1x1x1x64, .f32⟩
  | 73 => ⟨S16x128x127x64, .f32⟩
  | 74 => ⟨S16x128x127x64, .f32⟩
  | 75 => ⟨S16x128x127x64, .f32⟩
  | 76 => ⟨S1x64x64, .f32⟩
  | 77 => ⟨S64x64, .f32⟩
  | 78 => ⟨S16x128x127x64, .f32⟩
  | 79 => ⟨S1x64, .f32⟩
  | 80 => ⟨S64, .f32⟩
  | 81 => ⟨S1x1x1x64, .f32⟩
  | 82 => ⟨S16x128x127x64, .f32⟩
  | 83 => ⟨S16x128x127x64, .f32⟩
  | 84 => ⟨S1x128x64, .f32⟩
  | 85 => ⟨S128x64, .f32⟩
  | 86 => ⟨S16x128x64, .f32⟩
  | 87 => ⟨S1x64, .f32⟩
  | 88 => ⟨S64, .f32⟩
  | 89 => ⟨S1x1x64, .f32⟩
  | 90 => ⟨S16x128x64, .f32⟩
  | 91 => ⟨S16x128x64, .f32⟩
  | 92 => ⟨S_, .i32⟩
  | 93 => ⟨S16256, .i32⟩
  | 94 => ⟨S16256, .i1⟩
  | 95 => ⟨S_, .i32⟩
  | 96 => ⟨S16256, .i32⟩
  | 97 => ⟨S16256, .i32⟩
  | 98 => ⟨S16256, .i32⟩
  | 99 => ⟨S16256x1, .i32⟩
  | 100 => ⟨S1, .i32⟩
  | 101 => ⟨S_, .i32⟩
  | 102 => ⟨S16256x1, .i32⟩
  | 103 => ⟨S16256x1, .i1⟩
  | 104 => ⟨S1x1, .i32⟩
  | 105 => ⟨S16256x1, .i32⟩
  | 106 => ⟨S16256x1, .i1⟩
  | 107 => ⟨S16256x1, .i1⟩
  | 108 => ⟨S_, .i1⟩
  | 109 => ⟨S16256, .i1⟩
  | 110 => ⟨S16x16256x64, .f32⟩
  | 111 => ⟨S16x16256x64, .i1⟩
  | 112 => ⟨S_, .f32⟩
  | 113 => ⟨S16x16256x64, .f32⟩
  | 114 => ⟨S16x16256x64, .f32⟩
  | 115 => ⟨S16x128x127x64, .f32⟩
  | 116 => ⟨S16x128x127x64, .f32⟩
  | 117 => ⟨S_, .f32⟩
  | 118 => ⟨S16x128x64, .f32⟩
  | 119 => ⟨S1x64x128, .f32⟩
  | 120 => ⟨S64x128, .f32⟩
  | 121 => ⟨S16x128x128, .f32⟩
  | 122 => ⟨S1x128, .f32⟩
  | 123 => ⟨S128, .f32⟩
  | 124 => ⟨S1x1x128, .f32⟩
  | 125 => ⟨S16x128x128, .f32⟩
  | 126 => ⟨S16x128x128, .f32⟩
  | 127 => ⟨S16x128x128, .f32⟩
  | _ => ⟨S16x128x3, .f32⟩

abbrev hbmTy0_2 (i : Nat) : BufTy := match i % 128 with
  | 0 => ⟨S1x128x128, .f32⟩
  | 1 => ⟨S128x128, .f32⟩
  | 2 => ⟨S16x128x128, .f32⟩
  | 3 => ⟨S1x128, .f32⟩
  | 4 => ⟨S128, .f32⟩
  | 5 => ⟨S1x1x128, .f32⟩
  | 6 => ⟨S16x128x128, .f32⟩
  | 7 => ⟨S16x128x128, .f32⟩
  | 8 => ⟨S16x128x128, .f32⟩
  | 9 => ⟨S1x25x64, .f32⟩
  | 10 => ⟨S25x64, .f32⟩
  | 11 => ⟨S16x128x127x64, .f32⟩
  | 12 => ⟨S1x64, .f32⟩
  | 13 => ⟨S64, .f32⟩
  | 14 => ⟨S1x1x1x64, .f32⟩
  | 15 => ⟨S16x128x127x64, .f32⟩
  | 16 => ⟨S16x128x127x64, .f32⟩
  | 17 => ⟨S16x128x127x64, .f32⟩
  | 18 => ⟨S1x64x64, .f32⟩
  | 19 => ⟨S64x64, .f32⟩
  | 20 => ⟨S16x128x127x64, .f32⟩
  | 21 => ⟨S1x64, .f32⟩
  | 22 => ⟨S64, .f32⟩
  | 23 => ⟨S1x1x1x64, .f32⟩
  | 24 => ⟨S16x128x127x64, .f32⟩
  | 25 => ⟨S16x128x127x64, .f32⟩
  | 26 => ⟨S1x128x64, .f32⟩
  | 27 => ⟨S128x64, .f32⟩
  | 28 => ⟨S16x128x64, .f32⟩
  | 29 => ⟨S1x64, .f32⟩
  | 30 => ⟨S64, .f32⟩
  | 31 => ⟨S1x1x64, .f32⟩
  | 32 => ⟨S16x128x64, .f32⟩
  | 33 => ⟨S16x128x64, .f32⟩
  | 34 => ⟨S_, .i32⟩
  | 35 => ⟨S16256, .i32⟩
  | 36 => ⟨S16256, .i1⟩
  | 37 => ⟨S_, .i32⟩
  | 38 => ⟨S16256, .i32⟩
  | 39 => ⟨S16256, .i32⟩
  | 40 => ⟨S16256, .i32⟩
  | 41 => ⟨S16256x1, .i32⟩
  | 42 => ⟨S1, .i32⟩
  | 43 => ⟨S_, .i32⟩
  | 44 => ⟨S16256x1, .i32⟩
  | 45 => ⟨S16256x1, .i1⟩
  | 46 => ⟨S1x1, .i32⟩
  | 47 => ⟨S16256x1, .i32⟩
  | 48 => ⟨S16256x1, .i1⟩
  | 49 => ⟨S16256x1, .i1⟩
  | 50 => ⟨S_, .i1⟩
  | 51 => ⟨S16256, .i1⟩
  | 52 => ⟨S16x16256x64, .f32⟩
  | 53 => ⟨S16x16256x64, .i1⟩
  | 54 => ⟨S_, .f32⟩
  | 55 => ⟨S16x16256x64, .f32⟩
  | 56 => ⟨S16x16256x64, .f32⟩
  | 57 => ⟨S16x128x127x64, .f32⟩
  | 58 => ⟨S16x128x127x64, .f32⟩
  | 59 => ⟨S_, .f32⟩
  | 60 => ⟨S16x128x64, .f32⟩
  | 61 => ⟨S1x64x128, .f32⟩
  | 62 => ⟨S64x128, .f32⟩
  | 63 => ⟨S16x128x128, .f32⟩
  | 64 => ⟨S1x128, .f32⟩
  | 65 => ⟨S128, .f32⟩
  | 66 => ⟨S1x1x128, .f32⟩
  | 67 => ⟨S16x128x128, .f32⟩
  | 68 => ⟨S16x128x128, .f32⟩
  | 69 => ⟨S16x128x128, .f32⟩
  | 70 => ⟨S1x128x128, .f32⟩
  | 71 => ⟨S128x128, .f32⟩
  | 72 => ⟨S16x128x128, .f32⟩
  | 73 => ⟨S1x128, .f32⟩
  | 74 => ⟨S128, .f32⟩
  | 75 => ⟨S1x1x128, .f32⟩
  | 76 => ⟨S16x128x128, .f32⟩
  | 77 => ⟨S16x128x128, .f32⟩
  | 78 => ⟨S16x128x128, .f32⟩
  | 79 => ⟨S16x128x128, .f32⟩
  | 80 => ⟨S1x1x128, .f32⟩
  | 81 => ⟨S16x128x128, .f32⟩
  | 82 => ⟨S16x128x128, .f32⟩
  | 83 => ⟨S16x128x128, .f32⟩
  | 84 => ⟨S16x128x1, .f32⟩
  | 85 => ⟨S1x1x1, .f32⟩
  | 86 => ⟨S16x128x1, .f32⟩
  | 87 => ⟨S16x128x1, .f32⟩
  | 88 => ⟨S_, .f32⟩
  | 89 => ⟨S16x1, .f32⟩
  | 90 => ⟨S16x1x1, .f32⟩
  | _ => ⟨S16x128x3, .f32⟩

abbrev hbmTy (i : Nat) : BufTy := match i / 128 with
  | 0 => hbmTy0_0 i
  | 1 => hbmTy0_1 i
  | 2 => hbmTy0_2 i
  | _ => ⟨S16x128x3, .f32⟩

abbrev bufTy : (tb : Table) → Fin (tcTables nBuf tb) → BufTy
  | .hbm, ⟨i, _⟩ => hbmTy i
  | _, _ => ⟨S16x128x3, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_arg16 : Ref sig .tc := ⟨.hbm, 16, rfl⟩
abbrev main_v0 : Ref sig .tc := ⟨.hbm, 17, rfl⟩
abbrev main_v1 : Ref sig .tc := ⟨.hbm, 18, rfl⟩
abbrev main_v2 : Ref sig .tc := ⟨.hbm, 19, rfl⟩
abbrev main_v3 : Ref sig .tc := ⟨.hbm, 20, rfl⟩
abbrev main_v4 : Ref sig .tc := ⟨.hbm, 21, rfl⟩
abbrev main_v5 : Ref sig .tc := ⟨.hbm, 22, rfl⟩
abbrev main_v6 : Ref sig .tc := ⟨.hbm, 23, rfl⟩
abbrev main_v7 : Ref sig .tc := ⟨.hbm, 24, rfl⟩
abbrev main_v8 : Ref sig .tc := ⟨.hbm, 25, rfl⟩
abbrev main_v9 : Ref sig .tc := ⟨.hbm, 26, rfl⟩
abbrev main_v10 : Ref sig .tc := ⟨.hbm, 27, rfl⟩
abbrev main_call0_c : Ref sig .tc := ⟨.hbm, 28, rfl⟩
abbrev main_call0_v0 : Ref sig .tc := ⟨.hbm, 29, rfl⟩
abbrev main_call0_v1 : Ref sig .tc := ⟨.hbm, 30, rfl⟩
abbrev main_call0_c_0 : Ref sig .tc := ⟨.hbm, 31, rfl⟩
abbrev main_call0_v2 : Ref sig .tc := ⟨.hbm, 32, rfl⟩
abbrev main_call0_v3 : Ref sig .tc := ⟨.hbm, 33, rfl⟩
abbrev main_call0_v4 : Ref sig .tc := ⟨.hbm, 34, rfl⟩
abbrev main_call0_v5 : Ref sig .tc := ⟨.hbm, 35, rfl⟩
abbrev main_call0_c_1 : Ref sig .tc := ⟨.hbm, 36, rfl⟩
abbrev main_call0_c_2 : Ref sig .tc := ⟨.hbm, 37, rfl⟩
abbrev main_call0_v6 : Ref sig .tc := ⟨.hbm, 38, rfl⟩
abbrev main_call0_v7 : Ref sig .tc := ⟨.hbm, 39, rfl⟩
abbrev main_call0_v8 : Ref sig .tc := ⟨.hbm, 40, rfl⟩
abbrev main_call0_v9 : Ref sig .tc := ⟨.hbm, 41, rfl⟩
abbrev main_call0_v10 : Ref sig .tc := ⟨.hbm, 42, rfl⟩
abbrev main_call0_v11 : Ref sig .tc := ⟨.hbm, 43, rfl⟩
abbrev main_call0_c_3 : Ref sig .tc := ⟨.hbm, 44, rfl⟩
abbrev main_call0_v12 : Ref sig .tc := ⟨.hbm, 45, rfl⟩
abbrev main_call0_v13 : Ref sig .tc := ⟨.hbm, 46, rfl⟩
abbrev main_call0_v14 : Ref sig .tc := ⟨.hbm, 47, rfl⟩
abbrev main_call0_cst : Ref sig .tc := ⟨.hbm, 48, rfl⟩
abbrev main_call0_v15 : Ref sig .tc := ⟨.hbm, 49, rfl⟩
abbrev main_v11 : Ref sig .tc := ⟨.hbm, 50, rfl⟩
abbrev main_v12 : Ref sig .tc := ⟨.hbm, 51, rfl⟩
abbrev main_v13 : Ref sig .tc := ⟨.hbm, 52, rfl⟩
abbrev main_v14 : Ref sig .tc := ⟨.hbm, 53, rfl⟩
abbrev main_v15 : Ref sig .tc := ⟨.hbm, 54, rfl⟩
abbrev main_v16 : Ref sig .tc := ⟨.hbm, 55, rfl⟩
abbrev main_v17 : Ref sig .tc := ⟨.hbm, 56, rfl⟩
abbrev main_call1_c : Ref sig .tc := ⟨.hbm, 57, rfl⟩
abbrev main_call1_v0 : Ref sig .tc := ⟨.hbm, 58, rfl⟩
abbrev main_call1_v1 : Ref sig .tc := ⟨.hbm, 59, rfl⟩
abbrev main_call1_c_0 : Ref sig .tc := ⟨.hbm, 60, rfl⟩
abbrev main_call1_v2 : Ref sig .tc := ⟨.hbm, 61, rfl⟩
abbrev main_call1_v3 : Ref sig .tc := ⟨.hbm, 62, rfl⟩
abbrev main_call1_v4 : Ref sig .tc := ⟨.hbm, 63, rfl⟩
abbrev main_call1_v5 : Ref sig .tc := ⟨.hbm, 64, rfl⟩
abbrev main_call1_c_1 : Ref sig .tc := ⟨.hbm, 65, rfl⟩
abbrev main_call1_c_2 : Ref sig .tc := ⟨.hbm, 66, rfl⟩
abbrev main_call1_v6 : Ref sig .tc := ⟨.hbm, 67, rfl⟩
abbrev main_call1_v7 : Ref sig .tc := ⟨.hbm, 68, rfl⟩
abbrev main_call1_v8 : Ref sig .tc := ⟨.hbm, 69, rfl⟩
abbrev main_call1_v9 : Ref sig .tc := ⟨.hbm, 70, rfl⟩
abbrev main_call1_v10 : Ref sig .tc := ⟨.hbm, 71, rfl⟩
abbrev main_call1_v11 : Ref sig .tc := ⟨.hbm, 72, rfl⟩
abbrev main_call1_c_3 : Ref sig .tc := ⟨.hbm, 73, rfl⟩
abbrev main_call1_v12 : Ref sig .tc := ⟨.hbm, 74, rfl⟩
abbrev main_call1_v13 : Ref sig .tc := ⟨.hbm, 75, rfl⟩
abbrev main_call1_v14 : Ref sig .tc := ⟨.hbm, 76, rfl⟩
abbrev main_call1_cst : Ref sig .tc := ⟨.hbm, 77, rfl⟩
abbrev main_call1_v15 : Ref sig .tc := ⟨.hbm, 78, rfl⟩
abbrev main_v18 : Ref sig .tc := ⟨.hbm, 79, rfl⟩
abbrev main_call2_v0 : Ref sig .tc := ⟨.hbm, 80, rfl⟩
abbrev main_call2_cst : Ref sig .tc := ⟨.hbm, 81, rfl⟩
abbrev main_call2_v1 : Ref sig .tc := ⟨.hbm, 82, rfl⟩
abbrev main_v19 : Ref sig .tc := ⟨.hbm, 83, rfl⟩
abbrev main_cst : Ref sig .tc := ⟨.hbm, 84, rfl⟩
abbrev main_cst_0 : Ref sig .tc := ⟨.hbm, 85, rfl⟩
abbrev main_call3_v0 : Ref sig .tc := ⟨.hbm, 86, rfl⟩
abbrev main_call3_v1 : Ref sig .tc := ⟨.hbm, 87, rfl⟩
abbrev main_call3_v2 : Ref sig .tc := ⟨.hbm, 88, rfl⟩
abbrev main_call3_cst : Ref sig .tc := ⟨.hbm, 89, rfl⟩
abbrev main_call3_v3 : Ref sig .tc := ⟨.hbm, 90, rfl⟩
abbrev main_call3_v4 : Ref sig .tc := ⟨.hbm, 91, rfl⟩
abbrev main_call3_cst_0 : Ref sig .tc := ⟨.hbm, 92, rfl⟩
abbrev main_call3_v5 : Ref sig .tc := ⟨.hbm, 93, rfl⟩
abbrev main_call3_v6 : Ref sig .tc := ⟨.hbm, 94, rfl⟩
abbrev main_call3_v7 : Ref sig .tc := ⟨.hbm, 95, rfl⟩
abbrev main_call3_cst_1 : Ref sig .tc := ⟨.hbm, 96, rfl⟩
abbrev main_call3_v8 : Ref sig .tc := ⟨.hbm, 97, rfl⟩
abbrev main_call3_v9 : Ref sig .tc := ⟨.hbm, 98, rfl⟩
abbrev main_call3_v10 : Ref sig .tc := ⟨.hbm, 99, rfl⟩
abbrev main_call3_v11 : Ref sig .tc := ⟨.hbm, 100, rfl⟩
abbrev main_call3_v12 : Ref sig .tc := ⟨.hbm, 101, rfl⟩
abbrev main_call3_v13 : Ref sig .tc := ⟨.hbm, 102, rfl⟩
abbrev main_call3_v14 : Ref sig .tc := ⟨.hbm, 103, rfl⟩
abbrev main_call3_v15 : Ref sig .tc := ⟨.hbm, 104, rfl⟩
abbrev main_call3_v16 : Ref sig .tc := ⟨.hbm, 105, rfl⟩
abbrev main_v20 : Ref sig .tc := ⟨.hbm, 106, rfl⟩
abbrev main_v21 : Ref sig .tc := ⟨.hbm, 107, rfl⟩
abbrev main_v22 : Ref sig .tc := ⟨.hbm, 108, rfl⟩
abbrev main_v23 : Ref sig .tc := ⟨.hbm, 109, rfl⟩
abbrev main_v24 : Ref sig .tc := ⟨.hbm, 110, rfl⟩
abbrev main_v25 : Ref sig .tc := ⟨.hbm, 111, rfl⟩
abbrev main_v26 : Ref sig .tc := ⟨.hbm, 112, rfl⟩
abbrev main_cst_1 : Ref sig .tc := ⟨.hbm, 113, rfl⟩
abbrev main_v27 : Ref sig .tc := ⟨.hbm, 114, rfl⟩
abbrev main_v28 : Ref sig .tc := ⟨.hbm, 115, rfl⟩
abbrev main_v29 : Ref sig .tc := ⟨.hbm, 116, rfl⟩
abbrev main_v30 : Ref sig .tc := ⟨.hbm, 117, rfl⟩
abbrev main_v31 : Ref sig .tc := ⟨.hbm, 118, rfl⟩
abbrev main_v32 : Ref sig .tc := ⟨.hbm, 119, rfl⟩
abbrev main_v33 : Ref sig .tc := ⟨.hbm, 120, rfl⟩
abbrev main_v34 : Ref sig .tc := ⟨.hbm, 121, rfl⟩
abbrev main_v35 : Ref sig .tc := ⟨.hbm, 122, rfl⟩
abbrev main_v36 : Ref sig .tc := ⟨.hbm, 123, rfl⟩
abbrev main_v37 : Ref sig .tc := ⟨.hbm, 124, rfl⟩
abbrev main_v38 : Ref sig .tc := ⟨.hbm, 125, rfl⟩
abbrev main_v39 : Ref sig .tc := ⟨.hbm, 126, rfl⟩
abbrev main_v40 : Ref sig .tc := ⟨.hbm, 127, rfl⟩
abbrev main_v41 : Ref sig .tc := ⟨.hbm, 128, rfl⟩
abbrev main_v42 : Ref sig .tc := ⟨.hbm, 129, rfl⟩
abbrev main_v43 : Ref sig .tc := ⟨.hbm, 130, rfl⟩
abbrev main_v44 : Ref sig .tc := ⟨.hbm, 131, rfl⟩
abbrev main_v45 : Ref sig .tc := ⟨.hbm, 132, rfl⟩
abbrev main_v46 : Ref sig .tc := ⟨.hbm, 133, rfl⟩
abbrev main_v47 : Ref sig .tc := ⟨.hbm, 134, rfl⟩
abbrev main_v48 : Ref sig .tc := ⟨.hbm, 135, rfl⟩
abbrev main_v49 : Ref sig .tc := ⟨.hbm, 136, rfl⟩
abbrev main_v50 : Ref sig .tc := ⟨.hbm, 137, rfl⟩
abbrev main_v51 : Ref sig .tc := ⟨.hbm, 138, rfl⟩
abbrev main_v52 : Ref sig .tc := ⟨.hbm, 139, rfl⟩
abbrev main_v53 : Ref sig .tc := ⟨.hbm, 140, rfl⟩
abbrev main_v54 : Ref sig .tc := ⟨.hbm, 141, rfl⟩
abbrev main_v55 : Ref sig .tc := ⟨.hbm, 142, rfl⟩
abbrev main_v56 : Ref sig .tc := ⟨.hbm, 143, rfl⟩
abbrev main_v57 : Ref sig .tc := ⟨.hbm, 144, rfl⟩
abbrev main_v58 : Ref sig .tc := ⟨.hbm, 145, rfl⟩
abbrev main_v59 : Ref sig .tc := ⟨.hbm, 146, rfl⟩
abbrev main_v60 : Ref sig .tc := ⟨.hbm, 147, rfl⟩
abbrev main_v61 : Ref sig .tc := ⟨.hbm, 148, rfl⟩
abbrev main_v62 : Ref sig .tc := ⟨.hbm, 149, rfl⟩
abbrev main_call4_c : Ref sig .tc := ⟨.hbm, 150, rfl⟩
abbrev main_call4_v0 : Ref sig .tc := ⟨.hbm, 151, rfl⟩
abbrev main_call4_v1 : Ref sig .tc := ⟨.hbm, 152, rfl⟩
abbrev main_call4_c_0 : Ref sig .tc := ⟨.hbm, 153, rfl⟩
abbrev main_call4_v2 : Ref sig .tc := ⟨.hbm, 154, rfl⟩
abbrev main_call4_v3 : Ref sig .tc := ⟨.hbm, 155, rfl⟩
abbrev main_call4_v4 : Ref sig .tc := ⟨.hbm, 156, rfl⟩
abbrev main_call4_v5 : Ref sig .tc := ⟨.hbm, 157, rfl⟩
abbrev main_call4_c_1 : Ref sig .tc := ⟨.hbm, 158, rfl⟩
abbrev main_call4_c_2 : Ref sig .tc := ⟨.hbm, 159, rfl⟩
abbrev main_call4_v6 : Ref sig .tc := ⟨.hbm, 160, rfl⟩
abbrev main_call4_v7 : Ref sig .tc := ⟨.hbm, 161, rfl⟩
abbrev main_call4_v8 : Ref sig .tc := ⟨.hbm, 162, rfl⟩
abbrev main_call4_v9 : Ref sig .tc := ⟨.hbm, 163, rfl⟩
abbrev main_call4_v10 : Ref sig .tc := ⟨.hbm, 164, rfl⟩
abbrev main_call4_v11 : Ref sig .tc := ⟨.hbm, 165, rfl⟩
abbrev main_call4_c_3 : Ref sig .tc := ⟨.hbm, 166, rfl⟩
abbrev main_call4_v12 : Ref sig .tc := ⟨.hbm, 167, rfl⟩
abbrev main_call4_v13 : Ref sig .tc := ⟨.hbm, 168, rfl⟩
abbrev main_call4_v14 : Ref sig .tc := ⟨.hbm, 169, rfl⟩
abbrev main_call4_cst : Ref sig .tc := ⟨.hbm, 170, rfl⟩
abbrev main_call4_v15 : Ref sig .tc := ⟨.hbm, 171, rfl⟩
abbrev main_v63 : Ref sig .tc := ⟨.hbm, 172, rfl⟩
abbrev main_v64 : Ref sig .tc := ⟨.hbm, 173, rfl⟩
abbrev main_v65 : Ref sig .tc := ⟨.hbm, 174, rfl⟩
abbrev main_cst_2 : Ref sig .tc := ⟨.hbm, 175, rfl⟩
abbrev main_v66 : Ref sig .tc := ⟨.hbm, 176, rfl⟩
abbrev main_v67 : Ref sig .tc := ⟨.hbm, 177, rfl⟩
abbrev main_v68 : Ref sig .tc := ⟨.hbm, 178, rfl⟩
abbrev main_v69 : Ref sig .tc := ⟨.hbm, 179, rfl⟩
abbrev main_v70 : Ref sig .tc := ⟨.hbm, 180, rfl⟩
abbrev main_v71 : Ref sig .tc := ⟨.hbm, 181, rfl⟩
abbrev main_v72 : Ref sig .tc := ⟨.hbm, 182, rfl⟩
abbrev main_v73 : Ref sig .tc := ⟨.hbm, 183, rfl⟩
abbrev main_v74 : Ref sig .tc := ⟨.hbm, 184, rfl⟩
abbrev main_v75 : Ref sig .tc := ⟨.hbm, 185, rfl⟩
abbrev main_v76 : Ref sig .tc := ⟨.hbm, 186, rfl⟩
abbrev main_v77 : Ref sig .tc := ⟨.hbm, 187, rfl⟩
abbrev main_v78 : Ref sig .tc := ⟨.hbm, 188, rfl⟩
abbrev main_v79 : Ref sig .tc := ⟨.hbm, 189, rfl⟩
abbrev main_v80 : Ref sig .tc := ⟨.hbm, 190, rfl⟩
abbrev main_v81 : Ref sig .tc := ⟨.hbm, 191, rfl⟩
abbrev main_v82 : Ref sig .tc := ⟨.hbm, 192, rfl⟩
abbrev main_v83 : Ref sig .tc := ⟨.hbm, 193, rfl⟩
abbrev main_v84 : Ref sig .tc := ⟨.hbm, 194, rfl⟩
abbrev main_v85 : Ref sig .tc := ⟨.hbm, 195, rfl⟩
abbrev main_v86 : Ref sig .tc := ⟨.hbm, 196, rfl⟩
abbrev main_v87 : Ref sig .tc := ⟨.hbm, 197, rfl⟩
abbrev main_v88 : Ref sig .tc := ⟨.hbm, 198, rfl⟩
abbrev main_v89 : Ref sig .tc := ⟨.hbm, 199, rfl⟩
abbrev main_v90 : Ref sig .tc := ⟨.hbm, 200, rfl⟩
abbrev main_v91 : Ref sig .tc := ⟨.hbm, 201, rfl⟩
abbrev main_v92 : Ref sig .tc := ⟨.hbm, 202, rfl⟩
abbrev main_v93 : Ref sig .tc := ⟨.hbm, 203, rfl⟩
abbrev main_v94 : Ref sig .tc := ⟨.hbm, 204, rfl⟩
abbrev main_v95 : Ref sig .tc := ⟨.hbm, 205, rfl⟩
abbrev main_v96 : Ref sig .tc := ⟨.hbm, 206, rfl⟩
abbrev main_v97 : Ref sig .tc := ⟨.hbm, 207, rfl⟩
abbrev main_v98 : Ref sig .tc := ⟨.hbm, 208, rfl⟩
abbrev main_v99 : Ref sig .tc := ⟨.hbm, 209, rfl⟩
abbrev main_v100 : Ref sig .tc := ⟨.hbm, 210, rfl⟩
abbrev main_v101 : Ref sig .tc := ⟨.hbm, 211, rfl⟩
abbrev main_v102 : Ref sig .tc := ⟨.hbm, 212, rfl⟩
abbrev main_v103 : Ref sig .tc := ⟨.hbm, 213, rfl⟩
abbrev main_v104 : Ref sig .tc := ⟨.hbm, 214, rfl⟩
abbrev main_v105 : Ref sig .tc := ⟨.hbm, 215, rfl⟩
abbrev main_v106 : Ref sig .tc := ⟨.hbm, 216, rfl⟩
abbrev main_v107 : Ref sig .tc := ⟨.hbm, 217, rfl⟩
abbrev main_v108 : Ref sig .tc := ⟨.hbm, 218, rfl⟩
abbrev main_v109 : Ref sig .tc := ⟨.hbm, 219, rfl⟩
abbrev main_call5_c : Ref sig .tc := ⟨.hbm, 220, rfl⟩
abbrev main_call5_v0 : Ref sig .tc := ⟨.hbm, 221, rfl⟩
abbrev main_call5_v1 : Ref sig .tc := ⟨.hbm, 222, rfl⟩
abbrev main_call5_c_0 : Ref sig .tc := ⟨.hbm, 223, rfl⟩
abbrev main_call5_v2 : Ref sig .tc := ⟨.hbm, 224, rfl⟩
abbrev main_call5_v3 : Ref sig .tc := ⟨.hbm, 225, rfl⟩
abbrev main_call5_v4 : Ref sig .tc := ⟨.hbm, 226, rfl⟩
abbrev main_call5_v5 : Ref sig .tc := ⟨.hbm, 227, rfl⟩
abbrev main_call5_c_1 : Ref sig .tc := ⟨.hbm, 228, rfl⟩
abbrev main_call5_c_2 : Ref sig .tc := ⟨.hbm, 229, rfl⟩
abbrev main_call5_v6 : Ref sig .tc := ⟨.hbm, 230, rfl⟩
abbrev main_call5_v7 : Ref sig .tc := ⟨.hbm, 231, rfl⟩
abbrev main_call5_v8 : Ref sig .tc := ⟨.hbm, 232, rfl⟩
abbrev main_call5_v9 : Ref sig .tc := ⟨.hbm, 233, rfl⟩
abbrev main_call5_v10 : Ref sig .tc := ⟨.hbm, 234, rfl⟩
abbrev main_call5_v11 : Ref sig .tc := ⟨.hbm, 235, rfl⟩
abbrev main_call5_c_3 : Ref sig .tc := ⟨.hbm, 236, rfl⟩
abbrev main_call5_v12 : Ref sig .tc := ⟨.hbm, 237, rfl⟩
abbrev main_call5_v13 : Ref sig .tc := ⟨.hbm, 238, rfl⟩
abbrev main_call5_v14 : Ref sig .tc := ⟨.hbm, 239, rfl⟩
abbrev main_call5_cst : Ref sig .tc := ⟨.hbm, 240, rfl⟩
abbrev main_call5_v15 : Ref sig .tc := ⟨.hbm, 241, rfl⟩
abbrev main_v110 : Ref sig .tc := ⟨.hbm, 242, rfl⟩
abbrev main_v111 : Ref sig .tc := ⟨.hbm, 243, rfl⟩
abbrev main_v112 : Ref sig .tc := ⟨.hbm, 244, rfl⟩
abbrev main_cst_3 : Ref sig .tc := ⟨.hbm, 245, rfl⟩
abbrev main_v113 : Ref sig .tc := ⟨.hbm, 246, rfl⟩
abbrev main_v114 : Ref sig .tc := ⟨.hbm, 247, rfl⟩
abbrev main_v115 : Ref sig .tc := ⟨.hbm, 248, rfl⟩
abbrev main_v116 : Ref sig .tc := ⟨.hbm, 249, rfl⟩
abbrev main_v117 : Ref sig .tc := ⟨.hbm, 250, rfl⟩
abbrev main_v118 : Ref sig .tc := ⟨.hbm, 251, rfl⟩
abbrev main_v119 : Ref sig .tc := ⟨.hbm, 252, rfl⟩
abbrev main_v120 : Ref sig .tc := ⟨.hbm, 253, rfl⟩
abbrev main_v121 : Ref sig .tc := ⟨.hbm, 254, rfl⟩
abbrev main_v122 : Ref sig .tc := ⟨.hbm, 255, rfl⟩
abbrev main_v123 : Ref sig .tc := ⟨.hbm, 256, rfl⟩
abbrev main_v124 : Ref sig .tc := ⟨.hbm, 257, rfl⟩
abbrev main_v125 : Ref sig .tc := ⟨.hbm, 258, rfl⟩
abbrev main_v126 : Ref sig .tc := ⟨.hbm, 259, rfl⟩
abbrev main_v127 : Ref sig .tc := ⟨.hbm, 260, rfl⟩
abbrev main_v128 : Ref sig .tc := ⟨.hbm, 261, rfl⟩
abbrev main_v129 : Ref sig .tc := ⟨.hbm, 262, rfl⟩
abbrev main_v130 : Ref sig .tc := ⟨.hbm, 263, rfl⟩
abbrev main_v131 : Ref sig .tc := ⟨.hbm, 264, rfl⟩
abbrev main_v132 : Ref sig .tc := ⟨.hbm, 265, rfl⟩
abbrev main_v133 : Ref sig .tc := ⟨.hbm, 266, rfl⟩
abbrev main_v134 : Ref sig .tc := ⟨.hbm, 267, rfl⟩
abbrev main_v135 : Ref sig .tc := ⟨.hbm, 268, rfl⟩
abbrev main_v136 : Ref sig .tc := ⟨.hbm, 269, rfl⟩
abbrev main_v137 : Ref sig .tc := ⟨.hbm, 270, rfl⟩
abbrev main_v138 : Ref sig .tc := ⟨.hbm, 271, rfl⟩
abbrev main_v139 : Ref sig .tc := ⟨.hbm, 272, rfl⟩
abbrev main_v140 : Ref sig .tc := ⟨.hbm, 273, rfl⟩
abbrev main_v141 : Ref sig .tc := ⟨.hbm, 274, rfl⟩
abbrev main_v142 : Ref sig .tc := ⟨.hbm, 275, rfl⟩
abbrev main_v143 : Ref sig .tc := ⟨.hbm, 276, rfl⟩
abbrev main_v144 : Ref sig .tc := ⟨.hbm, 277, rfl⟩
abbrev main_v145 : Ref sig .tc := ⟨.hbm, 278, rfl⟩
abbrev main_v146 : Ref sig .tc := ⟨.hbm, 279, rfl⟩
abbrev main_v147 : Ref sig .tc := ⟨.hbm, 280, rfl⟩
abbrev main_v148 : Ref sig .tc := ⟨.hbm, 281, rfl⟩
abbrev main_v149 : Ref sig .tc := ⟨.hbm, 282, rfl⟩
abbrev main_v150 : Ref sig .tc := ⟨.hbm, 283, rfl⟩
abbrev main_v151 : Ref sig .tc := ⟨.hbm, 284, rfl⟩
abbrev main_v152 : Ref sig .tc := ⟨.hbm, 285, rfl⟩
abbrev main_v153 : Ref sig .tc := ⟨.hbm, 286, rfl⟩
abbrev main_v154 : Ref sig .tc := ⟨.hbm, 287, rfl⟩
abbrev main_v155 : Ref sig .tc := ⟨.hbm, 288, rfl⟩
abbrev main_v156 : Ref sig .tc := ⟨.hbm, 289, rfl⟩
abbrev main_call6_c : Ref sig .tc := ⟨.hbm, 290, rfl⟩
abbrev main_call6_v0 : Ref sig .tc := ⟨.hbm, 291, rfl⟩
abbrev main_call6_v1 : Ref sig .tc := ⟨.hbm, 292, rfl⟩
abbrev main_call6_c_0 : Ref sig .tc := ⟨.hbm, 293, rfl⟩
abbrev main_call6_v2 : Ref sig .tc := ⟨.hbm, 294, rfl⟩
abbrev main_call6_v3 : Ref sig .tc := ⟨.hbm, 295, rfl⟩
abbrev main_call6_v4 : Ref sig .tc := ⟨.hbm, 296, rfl⟩
abbrev main_call6_v5 : Ref sig .tc := ⟨.hbm, 297, rfl⟩
abbrev main_call6_c_1 : Ref sig .tc := ⟨.hbm, 298, rfl⟩
abbrev main_call6_c_2 : Ref sig .tc := ⟨.hbm, 299, rfl⟩
abbrev main_call6_v6 : Ref sig .tc := ⟨.hbm, 300, rfl⟩
abbrev main_call6_v7 : Ref sig .tc := ⟨.hbm, 301, rfl⟩
abbrev main_call6_v8 : Ref sig .tc := ⟨.hbm, 302, rfl⟩
abbrev main_call6_v9 : Ref sig .tc := ⟨.hbm, 303, rfl⟩
abbrev main_call6_v10 : Ref sig .tc := ⟨.hbm, 304, rfl⟩
abbrev main_call6_v11 : Ref sig .tc := ⟨.hbm, 305, rfl⟩
abbrev main_call6_c_3 : Ref sig .tc := ⟨.hbm, 306, rfl⟩
abbrev main_call6_v12 : Ref sig .tc := ⟨.hbm, 307, rfl⟩
abbrev main_call6_v13 : Ref sig .tc := ⟨.hbm, 308, rfl⟩
abbrev main_call6_v14 : Ref sig .tc := ⟨.hbm, 309, rfl⟩
abbrev main_call6_cst : Ref sig .tc := ⟨.hbm, 310, rfl⟩
abbrev main_call6_v15 : Ref sig .tc := ⟨.hbm, 311, rfl⟩
abbrev main_v157 : Ref sig .tc := ⟨.hbm, 312, rfl⟩
abbrev main_v158 : Ref sig .tc := ⟨.hbm, 313, rfl⟩
abbrev main_v159 : Ref sig .tc := ⟨.hbm, 314, rfl⟩
abbrev main_cst_4 : Ref sig .tc := ⟨.hbm, 315, rfl⟩
abbrev main_v160 : Ref sig .tc := ⟨.hbm, 316, rfl⟩
abbrev main_v161 : Ref sig .tc := ⟨.hbm, 317, rfl⟩
abbrev main_v162 : Ref sig .tc := ⟨.hbm, 318, rfl⟩
abbrev main_v163 : Ref sig .tc := ⟨.hbm, 319, rfl⟩
abbrev main_v164 : Ref sig .tc := ⟨.hbm, 320, rfl⟩
abbrev main_v165 : Ref sig .tc := ⟨.hbm, 321, rfl⟩
abbrev main_v166 : Ref sig .tc := ⟨.hbm, 322, rfl⟩
abbrev main_v167 : Ref sig .tc := ⟨.hbm, 323, rfl⟩
abbrev main_v168 : Ref sig .tc := ⟨.hbm, 324, rfl⟩
abbrev main_v169 : Ref sig .tc := ⟨.hbm, 325, rfl⟩
abbrev main_v170 : Ref sig .tc := ⟨.hbm, 326, rfl⟩
abbrev main_v171 : Ref sig .tc := ⟨.hbm, 327, rfl⟩
abbrev main_v172 : Ref sig .tc := ⟨.hbm, 328, rfl⟩
abbrev main_v173 : Ref sig .tc := ⟨.hbm, 329, rfl⟩
abbrev main_v174 : Ref sig .tc := ⟨.hbm, 330, rfl⟩
abbrev main_v175 : Ref sig .tc := ⟨.hbm, 331, rfl⟩
abbrev main_v176 : Ref sig .tc := ⟨.hbm, 332, rfl⟩
abbrev main_v177 : Ref sig .tc := ⟨.hbm, 333, rfl⟩
abbrev main_v178 : Ref sig .tc := ⟨.hbm, 334, rfl⟩
abbrev main_v179 : Ref sig .tc := ⟨.hbm, 335, rfl⟩
abbrev main_v180 : Ref sig .tc := ⟨.hbm, 336, rfl⟩
abbrev main_v181 : Ref sig .tc := ⟨.hbm, 337, rfl⟩
abbrev main_v182 : Ref sig .tc := ⟨.hbm, 338, rfl⟩
abbrev main_v183 : Ref sig .tc := ⟨.hbm, 339, rfl⟩
abbrev main_v184 : Ref sig .tc := ⟨.hbm, 340, rfl⟩
abbrev main_v185 : Ref sig .tc := ⟨.hbm, 341, rfl⟩
abbrev main_v186 : Ref sig .tc := ⟨.hbm, 342, rfl⟩
abbrev main_v187 : Ref sig .tc := ⟨.hbm, 343, rfl⟩
abbrev main_cst_5 : Ref sig .tc := ⟨.hbm, 344, rfl⟩
abbrev main_v188 : Ref sig .tc := ⟨.hbm, 345, rfl⟩
abbrev main_v189 : Ref sig .tc := ⟨.hbm, 346, rfl⟩

abbrev nD : Nat := 1
abbrev τ : Topo := Topo.v7x

variable {F : FTy → Type} [FloatOps F]
-- ==== Proof.Spec.lean ====
/- The network as plain mathematics over the extended reals: a linear layer, the Gaussians, a filter, one interaction
   block over all atoms and over the other atoms only, the energy. The two forms of a block are equal on finite data. -/
module

public import Idealize.ShloMosaic.Lib.Pointwise

@[expose] public section

noncomputable section

namespace Cert.Spec

open Idealize.ShloMosaic

/-- A value that is a real number. -/
def Fini (x : EReal) : Prop := ∃ r : ℝ, x = (r : EReal)

/-- A sum of two finite values is finite. -/
theorem Fini.add {x y : EReal} (hx : Fini x) (hy : Fini y) : Fini (x + y) := by
  obtain ⟨a, rfl⟩ := hx; obtain ⟨b, rfl⟩ := hy; exact ⟨a + b, (EReal.coe_add a b).symm⟩

/-- A product of two finite values is finite. -/
theorem Fini.mul {x y : EReal} (hx : Fini x) (hy : Fini y) : Fini (x * y) := by
  obtain ⟨a, rfl⟩ := hx; obtain ⟨b, rfl⟩ := hy; exact ⟨a * b, (EReal.coe_mul a b).symm⟩

/-- A sum of finite values is finite. -/
theorem Fini.sum {n : ℕ} {f : Fin n → EReal} (h : ∀ k, Fini (f k)) : Fini (∑ k, f k) := by
  choose g hg using h
  obtain rfl : f = fun k => (g k : EReal) := funext hg
  refine ⟨∑ k, g k, ?_⟩
  exact (map_sum (⟨⟨Real.toEReal, EReal.coe_zero⟩, EReal.coe_add⟩ : ℝ →+ EReal) g Finset.univ).symm

/-- A hyperbolic tangent is always a real number. -/
theorem Fini.tanh (x : EReal) : Fini (Ideal.tanh x) := by
  induction x with
  | bot => exact ⟨-1, by simp⟩
  | coe r => exact ⟨Real.tanh r, rfl⟩
  | top => exact ⟨1, by simp⟩

/-- A value strictly between the infinities is a real number. -/
theorem Fini.of_lt {x : EReal} (h₁ : x < ⊤) (h₂ : ⊥ < x) : Fini x :=
  ⟨x.toReal, (EReal.coe_toReal h₁.ne h₂.ne').symm⟩

/-- A linear layer: the products summed over the inputs, and the bias. -/
def lin {n p : ℕ} (x : Fin n → EReal) (W : Fin n → Fin p → EReal) (b : Fin p → EReal) (q : Fin p) : EReal :=
  ∑ k, x k * W k q + b q

/-- A linear layer of finite values is finite. -/
theorem Fini.lin {n p : ℕ} {x : Fin n → EReal} {W : Fin n → Fin p → EReal} {b : Fin p → EReal} {q : Fin p}
    (hx : ∀ k, Fini (x k)) (hW : ∀ k, Fini (W k q)) (hb : Fini (b q)) : Fini (lin x W b q) :=
  (Fini.sum fun k => (hx k).mul (hW k)).add hb

/-- The centers of the Gaussians: 25 points from 0 to 5. -/
def center (g : Fin 25) : EReal := ((5 * ((g : ℕ) / 24) : ℝ) : EReal)

/-- The factor in the exponent of a Gaussian. -/
def negAlpha : EReal := ((-288 / 25 : ℝ) : EReal)

/-- A Gaussian at a distance. -/
def gauss (r : EReal) (g : Fin 25) : EReal := Ideal.exp (negAlpha * ((r - center g) * (r - center g)))

/-- The distance of two points of space. -/
def dist (p q : Fin 3 → EReal) : EReal := Ideal.sqrt (∑ d, (p d - q d) * (p d - q d))

/-- The weights of one interaction block. -/
structure Layer where
  fW1 : Fin 25 → Fin 64 → EReal
  fb1 : Fin 64 → EReal
  fW2 : Fin 64 → Fin 64 → EReal
  fb2 : Fin 64 → EReal
  iW : Fin 128 → Fin 64 → EReal
  ib : Fin 64 → EReal
  oW : Fin 64 → Fin 128 → EReal
  ob : Fin 128 → EReal
  dW : Fin 128 → Fin 128 → EReal
  db : Fin 128 → EReal

/-- The filter network of a block from the values of the Gaussians. -/
def Layer.net (L : Layer) (G : Fin 25 → EReal) (f : Fin 64) : EReal :=
  lin (fun k => Ideal.tanh (lin G L.fW1 L.fb1 k)) L.fW2 L.fb2 f

/-- The filter of a block at a distance. -/
def Layer.filter (L : Layer) (r : EReal) (f : Fin 64) : EReal := L.net (gauss r) f

/-- The input features of a block. -/
def Layer.feat (L : Layer) (x : Fin 128 → Fin 128 → EReal) (i : Fin 128) (f : Fin 64) : EReal := lin (x i) L.iW L.ib f

/-- The atoms' vectors after a block, from those before it and the messages. -/
def Layer.update (L : Layer) (x : Fin 128 → Fin 128 → EReal) (m : Fin 128 → Fin 64 → EReal) (i q : Fin 128) : EReal :=
  x i q + lin (fun k => Ideal.tanh (lin (m i) L.oW L.ob k)) L.dW L.db q

/-- The messages summed over all atoms, less the atom's own term. -/
def Layer.messAll (L : Layer) (d : Fin 128 → Fin 128 → EReal) (x : Fin 128 → Fin 128 → EReal) (i : Fin 128) (f : Fin 64) : EReal :=
  ∑ a, L.filter (d a i) f * L.feat x a f - L.filter 0 f * L.feat x i f

/-- The messages summed over the other atoms. -/
def Layer.messOthers (L : Layer) (d : Fin 128 → Fin 128 → EReal) (x : Fin 128 → Fin 128 → EReal) (i : Fin 128) (f : Fin 64) : EReal :=
  ∑ k : Fin 127, L.feat x (i.succAbove k) f * L.filter (d i (i.succAbove k)) f

/-- The energy of a configuration: the output network summed over the atoms. -/
def energy (W1 : Fin 128 → Fin 128 → EReal) (b1 : Fin 128 → EReal) (W2 : Fin 128 → Fin 1 → EReal) (b2 : Fin 1 → EReal)
    (x : Fin 128 → Fin 128 → EReal) : EReal :=
  ∑ i, lin (fun k => Ideal.tanh (lin (x i) W1 b1 k)) W2 b2 0

/-- Adding a real number and taking it away again changes nothing. -/
theorem add_sub_fini {s t : EReal} (ht : Fini t) : t + s - t = s := by
  obtain ⟨r, rfl⟩ := ht
  rw [add_comm]
  exact EReal.add_sub_cancel_right

/-- The filters are real numbers when the second layer's weights are. -/
theorem Layer.filter_fini (L : Layer) (hW : ∀ k f, Fini (L.fW2 k f)) (hb : ∀ f, Fini (L.fb2 f)) (r : EReal) (f : Fin 64) :
    Fini (L.filter r f) := Fini.lin (fun _ => Fini.tanh _) (fun k => hW k f) (hb f)

/-- The two forms of a block's messages are equal: distances are symmetric and vanish on the diagonal, and the atom's own
    term is a real number. -/
theorem Layer.mess_eq (L : Layer) (hW : ∀ k f, Fini (L.fW2 k f)) (hb : ∀ f, Fini (L.fb2 f)) (hiW : ∀ k f, Fini (L.iW k f))
    (hib : ∀ f, Fini (L.ib f)) (d : Fin 128 → Fin 128 → EReal) (hd : ∀ i j, d i j = d j i) (h0 : ∀ i, d i i = 0)
    (x : Fin 128 → Fin 128 → EReal) (hx : ∀ i q, Fini (x i q)) : L.messAll d x = L.messOthers d x := by
  funext i f
  unfold Layer.messAll Layer.messOthers
  rw [Fin.sum_univ_succAbove _ i, h0, add_sub_fini
    (t := L.filter 0 f * L.feat x i f)
    ((L.filter_fini hW hb 0 f).mul (Fini.lin (fun k => hx i k) (fun k => hiW k f) (hib f)))]
  exact Finset.sum_congr rfl fun k _ => by rw [mul_comm, hd]

/-- A block with real output weights takes real vectors to real vectors. -/
theorem Layer.update_fini (L : Layer) (hdW : ∀ k q, Fini (L.dW k q)) (hdb : ∀ q, Fini (L.db q)) {x : Fin 128 → Fin 128 → EReal}
    (hx : ∀ i q, Fini (x i q)) (m : Fin 128 → Fin 64 → EReal) (i q : Fin 128) : Fini (L.update x m i q) :=
  (hx i q).add (Fini.lin (fun _ => Fini.tanh _) (fun k => hdW k q) (hdb q))

/-- One block with the messages summed over all atoms, less the atom's own term. -/
def Layer.stepAll (L : Layer) (d : Fin 128 → Fin 128 → EReal) (x : Fin 128 → Fin 128 → EReal) : Fin 128 → Fin 128 → EReal :=
  L.update x (L.messAll d x)

/-- One block with the messages summed over the other atoms. -/
def Layer.stepOthers (L : Layer) (d : Fin 128 → Fin 128 → EReal) (x : Fin 128 → Fin 128 → EReal) : Fin 128 → Fin 128 → EReal :=
  L.update x (L.messOthers d x)

/-- The three blocks in their two forms are equal on real data. -/
theorem steps_eq (L : Fin 3 → Layer) (hW : ∀ b k f, Fini ((L b).fW2 k f)) (hb : ∀ b f, Fini ((L b).fb2 f))
    (hiW : ∀ b k f, Fini ((L b).iW k f)) (hib : ∀ b f, Fini ((L b).ib f))
    (hdW : ∀ (b : Fin 2) k q, Fini ((L b.castSucc).dW k q)) (hdb : ∀ (b : Fin 2) q, Fini ((L b.castSucc).db q))
    (d : Fin 128 → Fin 128 → EReal) (hd : ∀ i j, d i j = d j i) (h0 : ∀ i, d i i = 0)
    (x : Fin 128 → Fin 128 → EReal) (hx : ∀ i q, Fini (x i q)) :
    (L 2).stepAll d ((L 1).stepAll d ((L 0).stepAll d x)) = (L 2).stepOthers d ((L 1).stepOthers d ((L 0).stepOthers d x)) := by
  have e : ∀ b x, (∀ i q, Fini (x i q)) → (L b).stepAll d x = (L b).stepOthers d x := fun b x hx => by
    unfold Layer.stepAll Layer.stepOthers
    rw [(L b).mess_eq (hW b) (hb b) (hiW b) (hib b) d hd h0 x hx]
  have f0 : ∀ i q, Fini ((L 0).stepOthers d x i q) := (L 0).update_fini (hdW 0) (hdb 0) hx _
  have f1 : ∀ i q, Fini ((L 1).stepOthers d ((L 0).stepOthers d x) i q) := (L 1).update_fini (hdW 1) (hdb 1) f0 _
  rw [e 0 x hx, e 1 _ f0, e 2 _ f1]

/-- A distance is symmetric for real positions. -/
theorem dist_comm {p q : Fin 3 → EReal} (hp : ∀ d, Fini (p d)) (hq : ∀ d, Fini (q d)) : dist p q = dist q p := by
  choose a ha using hp
  choose b hb using hq
  unfold dist
  congr 1
  refine Finset.sum_congr rfl fun d _ => ?_
  rw [ha, hb, ← EReal.coe_sub, ← EReal.coe_sub, ← EReal.coe_mul, ← EReal.coe_mul]
  congr 1
  ring

/-- The root of zero is zero. -/
theorem sqrt_zero : Ideal.sqrt 0 = 0 := by
  change (if (0 : ℝ) < 0 then (⊥ : EReal) else (Real.sqrt 0 : EReal)) = 0
  simp

/-- A point is at distance zero from itself. -/
theorem dist_self {p : Fin 3 → EReal} (hp : ∀ d, Fini (p d)) : dist p p = 0 := by
  choose a ha using hp
  have : ∑ d, (p d - p d) * (p d - p d) = ((0 : ℝ) : EReal) :=
    Finset.sum_eq_zero fun d _ => by rw [ha, ← EReal.coe_sub, sub_self, EReal.coe_zero, zero_mul]
  unfold dist
  rw [this, EReal.coe_zero, sqrt_zero]

/-- The squared distance from the squared lengths and the inner product, for real positions. -/
theorem dist_expand {p q : Fin 3 → EReal} (hp : ∀ d, Fini (p d)) (hq : ∀ d, Fini (q d)) :
    Ideal.sqrt (max (∑ d, p d * p d + ∑ d, q d * q d - ((2 : ℝ) : EReal) * ∑ d, p d * q d) 0) = dist p q := by
  choose a ha using hp
  choose b hb using hq
  obtain rfl : p = fun d => (a d : EReal) := funext ha
  obtain rfl : q = fun d => (b d : EReal) := funext hb
  unfold dist
  simp only [← EReal.coe_sub, ← EReal.coe_mul, Fin.sum_univ_three, ← EReal.coe_add]
  rw [max_eq_left]
  · congr 2
    ring
  · rw [← EReal.coe_zero, EReal.coe_le_coe_iff]
    nlinarith [sq_nonneg (a 0 - b 0), sq_nonneg (a 1 - b 1), sq_nonneg (a 2 - b 2)]

/-- The Gaussian at distance zero is a function of the center alone. -/
theorem gauss_zero (g : Fin 25) : gauss 0 g = Ideal.exp (negAlpha * (center g * center g)) := by
  unfold gauss center
  rw [← EReal.coe_zero, ← EReal.coe_sub, ← EReal.coe_mul, ← EReal.coe_mul]
  congr 3
  ring

/-- The word of 5. -/
theorem five_value : Ideal.ofBits .f32 1084227584#32 = ((5 : ℝ) : EReal) := by
  simp [Ideal.ofBits, Ideal.ieee, -EReal.coe_mul]
  norm_num

/-- The word of 24. -/
theorem steps_value : Ideal.ofBits .f32 1103101952#32 = ((24 : ℝ) : EReal) := by
  simp [Ideal.ofBits, Ideal.ieee, -EReal.coe_mul]
  norm_num

/-- The word of zero. -/
theorem zero_value : Ideal.ofBits .f32 0#32 = 0 := by
  simp [Ideal.ofBits, Ideal.ieee]

/-- A center before the last, as the host computes it: a mean of the two ends. -/
theorem center_inner (g : Fin 25) (_ : (g : ℕ) < 24) :
    (FloatOps.ofBits .f32 0#32 : Ideal .f32)
        * (1 - Ideal.div (FloatOps.sitofp .f32 (BitVec.ofNat 32 g) : Ideal .f32) (Ideal.ofBits .f32 1103101952#32))
      + (FloatOps.ofBits .f32 1084227584#32 : Ideal .f32)
        * Ideal.div (FloatOps.sitofp .f32 (BitVec.ofNat 32 g) : Ideal .f32) (Ideal.ofBits .f32 1103101952#32) = center g := by
  have hg : (FloatOps.sitofp .f32 (BitVec.ofNat 32 g) : Ideal .f32) = (((g : ℕ) : ℝ) : EReal) :=
    congrArg (fun z : ℤ => ((z : ℝ) : EReal)) ((by decide : ∀ g : Fin 25, (BitVec.ofNat 32 g).toInt = ((g : ℕ) : ℤ)) g) |>.trans (by simp)
  change Ideal.ofBits .f32 0#32 * _ + Ideal.ofBits .f32 1084227584#32 * _ = _
  rw [hg, steps_value, five_value, zero_value, zero_mul, zero_add, Ideal.div_coe (by norm_num), center, ← EReal.coe_mul, ← EReal.coe_mul]
  congr 2
  ring

/-- The last center is 5. -/
theorem center_last (g : Fin 25) (h : ¬ (g : ℕ) < 24) : (FloatOps.ofBits .f32 1084227584#32 : Ideal .f32) = center g := by
  have : (g : ℕ) = 24 := by omega
  change Ideal.ofBits .f32 1084227584#32 = _
  rw [five_value, center, this]
  norm_num

/-- The entry `g` of the group `s`, of `n` groups of `m`. -/
def cat {n m N : ℕ} (h : n * m = N) (s : Fin n) (g : Fin m) : Fin N :=
  ⟨m * s + g, by
    have := g.2
    calc m * s + g < m * s + m := by omega
      _ = (s + 1) * m := by ring
      _ ≤ n * m := Nat.mul_le_mul_right _ s.2
      _ = N := h⟩

/-- The place of a pair, as a number. -/
theorem cat_val {n m N : ℕ} (h : n * m = N) (s : Fin n) (g : Fin m) : (cat h s g : ℕ) = m * s + g := rfl

/-- The first of the pair from its place. -/
theorem cat_div {n m N : ℕ} (h : n * m = N) (s : Fin n) (g : Fin m) : (cat h s g : ℕ) / m = s := by
  rw [cat_val, Nat.mul_add_div (by have := g.2; omega), Nat.div_eq_of_lt g.2, add_zero]

/-- The second of the pair from its place. -/
theorem cat_mod {n m N : ℕ} (h : n * m = N) (s : Fin n) (g : Fin m) : (cat h s g : ℕ) % m = g := by
  rw [cat_val, Nat.mul_add_mod, Nat.mod_eq_of_lt g.2]

/-- Every index lies in one group. -/
theorem exists_cat {n m N : ℕ} (h : n * m = N) (x : Fin N) : ∃ s g, x = cat h s g := by
  have hm : 0 < m := by
    rcases Nat.eq_zero_or_pos m with rfl | hm
    · have := x.2; simp at h; omega
    · exact hm
  refine ⟨⟨x / m, Nat.div_lt_of_lt_mul (by rw [mul_comm, h]; exact x.2)⟩, ⟨x % m, Nat.mod_lt _ hm⟩, Fin.ext ?_⟩
  rw [cat_val]
  exact (Nat.div_add_mod x m).symm

/-- A sum over `n * m` terms as a sum over `n` groups of `m`. -/
theorem sum_groups {n m N : ℕ} (h : n * m = N) (f : Fin N → EReal) : ∑ x, f x = ∑ s : Fin n, ∑ g : Fin m, f (cat h s g) := by
  subst h
  rw [← finProdFinEquiv.sum_comp, Fintype.sum_prod_type]
  exact Finset.sum_congr rfl fun s _ => Finset.sum_congr rfl fun g _ => congrArg f (Fin.ext (by simp [finProdFinEquiv, cat]; ring))

/-- A sum whose weights vanish outside one group is the sum over that group. -/
theorem sum_group {n m N : ℕ} (h : n * m = N) (x w : Fin N → EReal) (s : Fin n) (v : Fin m → EReal)
    (hw : ∀ s' g, w (cat h s' g) = if s' = s then v g else 0) : ∑ k, x k * w k = ∑ g, x (cat h s g) * v g := by
  rw [sum_groups h, Finset.sum_eq_single s]
  · exact Finset.sum_congr rfl fun g _ => by rw [hw, if_pos rfl]
  · exact fun s' _ hs => Finset.sum_eq_zero fun g _ => by rw [hw, if_neg hs, mul_zero]
  · exact fun hs => absurd (Finset.mem_univ s) hs

end Cert.Spec
-- ==== Proof.Net.lean ====
/- The data of the network, as both programs are given it, and the energies of its two forms. -/
module

public import proofs.«01_k».proof.Proof.Spec

@[expose] public section

noncomputable section

namespace Cert.Spec

open Idealize.ShloMosaic

/-- The positions and numbers of the atoms of 16 configurations, the embedding, the weights of the three blocks and of the output network. -/
structure Data where
  pos : Fin 16 → Fin 128 → Fin 3 → EReal
  num : Fin 16 → Fin 128 → BitVec 32
  emb : Fin 5 → Fin 128 → EReal
  layer : Fin 3 → Layer
  eW1 : Fin 128 → Fin 128 → EReal
  eb1 : Fin 128 → EReal
  eW2 : Fin 128 → Fin 1 → EReal
  eb2 : Fin 1 → EReal

/-- The data from the seventeen arguments. -/
def Data.of (x0 : Vec Ideal ⟨3, ![16, 128, 3]⟩ .f32) (x1 : Vec Ideal ⟨2, ![16, 128]⟩ .i32) (x2 : Vec Ideal ⟨2, ![5, 128]⟩ .f32)
    (x3 : Vec Ideal ⟨3, ![3, 25, 64]⟩ .f32) (x4 : Vec Ideal ⟨2, ![3, 64]⟩ .f32) (x5 : Vec Ideal ⟨3, ![3, 64, 64]⟩ .f32)
    (x6 : Vec Ideal ⟨2, ![3, 64]⟩ .f32) (x7 : Vec Ideal ⟨3, ![3, 128, 64]⟩ .f32) (x8 : Vec Ideal ⟨2, ![3, 64]⟩ .f32)
    (x9 : Vec Ideal ⟨3, ![3, 64, 128]⟩ .f32) (x10 : Vec Ideal ⟨2, ![3, 128]⟩ .f32) (x11 : Vec Ideal ⟨3, ![3, 128, 128]⟩ .f32)
    (x12 : Vec Ideal ⟨2, ![3, 128]⟩ .f32) (x13 : Vec Ideal ⟨2, ![128, 128]⟩ .f32) (x14 : Vec Ideal ⟨1, ![128]⟩ .f32)
    (x15 : Vec Ideal ⟨2, ![128, 1]⟩ .f32) (x16 : Vec Ideal ⟨1, ![1]⟩ .f32) : Data where
  pos c i d := x0 (ix3 c i d)
  num c i := x1 (ix2 c i)
  emb z q := x2 (ix2 z q)
  layer b :=
    { fW1 := fun g k => x3 (ix3 b g k), fb1 := fun k => x4 (ix2 b k), fW2 := fun k f => x5 (ix3 b k f), fb2 := fun f => x6 (ix2 b f)
      iW := fun q f => x7 (ix3 b q f), ib := fun f => x8 (ix2 b f), oW := fun f q => x9 (ix3 b f q), ob := fun q => x10 (ix2 b q)
      dW := fun k q => x11 (ix3 b k q), db := fun q => x12 (ix2 b q) }
  eW1 k q := x13 (ix2 k q)
  eb1 q := x14 (ix1 q)
  eW2 k q := x15 (ix2 k q)
  eb2 q := x16 (ix1 q)

/-- The row of the embedding that an atomic number names. -/
def species (w : BitVec 32) : Fin 5 := ⟨w.toNat % 5, Nat.mod_lt _ (by decide)⟩

/-- An atomic number below five is the word of the row that it names. -/
theorem species_word {w : BitVec 32} (h : w.toNat < 5) : w = BitVec.ofNat 32 (species w) := by
  refine BitVec.eq_of_toNat_eq ?_
  rw [BitVec.toNat_ofNat]
  change _ = w.toNat % 5 % _
  omega

variable (D : Data) (c : Fin 16)

/-- The distances of a configuration. -/
def Data.dists (i j : Fin 128) : EReal := dist (D.pos c i) (D.pos c j)

/-- The first vectors of the atoms of a configuration. -/
def Data.first (i q : Fin 128) : EReal := D.emb (species (D.num c i)) q

/-- The energy of a configuration, each message summed over all atoms, less the atom's own term. -/
def Data.all : EReal :=
  energy D.eW1 D.eb1 D.eW2 D.eb2
    ((D.layer 2).stepAll (D.dists c) ((D.layer 1).stepAll (D.dists c) ((D.layer 0).stepAll (D.dists c) (D.first c))))

/-- The energy of a configuration, each message summed over the other atoms. -/
def Data.others : EReal :=
  energy D.eW1 D.eb1 D.eW2 D.eb2
    ((D.layer 2).stepOthers (D.dists c) ((D.layer 1).stepOthers (D.dists c) ((D.layer 0).stepOthers (D.dists c) (D.first c))))

/-- What the two forms need of the data: real positions, embedding and weights where a term is added and taken away, and
    atomic numbers that name a row. -/
structure Data.Proper : Prop where
  pos : ∀ c i d, Fini (D.pos c i d)
  num : ∀ c i, (D.num c i).toNat < 5
  emb : ∀ z q, Fini (D.emb z q)
  fW2 : ∀ b k f, Fini ((D.layer b).fW2 k f)
  fb2 : ∀ b f, Fini ((D.layer b).fb2 f)
  iW : ∀ b k f, Fini ((D.layer b).iW k f)
  ib : ∀ b f, Fini ((D.layer b).ib f)
  dW : ∀ (b : Fin 2) k q, Fini ((D.layer b.castSucc).dW k q)
  db : ∀ (b : Fin 2) q, Fini ((D.layer b.castSucc).db q)

/-- The two energies are equal on proper data. -/
theorem Data.Proper.all_eq {D : Data} (h : D.Proper) (c : Fin 16) : D.all c = D.others c := by
  unfold Data.all Data.others
  rw [steps_eq D.layer h.fW2 h.fb2 h.iW h.ib h.dW h.db (D.dists c) (fun i j => dist_comm (h.pos c i) (h.pos c j))
    (fun i => dist_self (h.pos c i)) (D.first c) fun i q => h.emb _ q]

end Cert.Spec
-- ==== Proof.Proper.lean ====
/- What the precondition says of the arguments: they are proper data. -/
module

public import proofs.«01_k».proof.Proof.Net
public import proofs.«01_k».proof.Defs
public import Idealize.ShloMosaic.Lib.WordCmp
public import Idealize.ShloMosaic.Lib.Affine
public import Idealize.ShloMosaic.Lib.Pointwise

@[expose] public section

noncomputable section

namespace Cert.Pre_finite_in_range

open Idealize.ShloMosaic Cert.Spec

/-- The shape facts that the precondition's operations carry. -/
instance facts : Facts where
  bcast_S_S16x128x3 := by decide
  bcast_S_S16x128 := by decide
  bcast_S_S5x128 := by decide
  bcast_S_S3x64x64 := by decide
  bcast_S_S3x64 := by decide
  bcast_S_S3x128x64 := by decide
  slices_S3x128x128_S2x128x128_0_0_0 := by decide
  bcast_S_S2x128x128 := by decide
  slices_S3x128_S2x128_0_0 := by decide
  bcast_S_S2x128 := by decide

/-- The mask of a value: whether it lies between the infinities. -/
def between (x : EReal) : BitVec 1 :=
  IntOp.andi (FloatOps.cmpf (F := Ideal) (φ := .f32) .olt x (FloatOps.ofBits (F := Ideal) .f32 0x7F800000#32))
    (FloatOps.cmpf (F := Ideal) (φ := .f32) .ogt x (- (FloatOps.ofBits (F := Ideal) .f32 0x7F800000#32)))

/-- A value whose mask is one is finite. -/
theorem fini_of_between {x : EReal} (h : between x = 1#1) : Fini x := by
  have top : FloatOps.ofBits (F := Ideal) .f32 0x7F800000#32 = (⊤ : EReal) :=
    show Ideal.ofBits .f32 0x7F800000#32 = ⊤ by simp [Ideal.ofBits, Ideal.ieee]
  obtain ⟨below, above⟩ := IntOp.andi_eq_one.1 h
  rw [top] at below above
  refine Fini.of_lt ((WordCmp.ofBool_decide_eq_one_iff _).1 below) ?_
  have := (WordCmp.ofBool_decide_eq_one_iff _).1 above
  rwa [EReal.neg_top] at this

/-- The mask of an atomic number: whether it names a row of five. -/
def named (w : BitVec 32) : BitVec 1 := IntOp.andi (IntOp.cmpi .sge w 0#32) (IntOp.cmpi .slt w 5#32)

/-- A number whose mask is one is below five. -/
theorem lt_of_named {w : BitVec 32} (h : named w = 1#1) : w.toNat < 5 :=
  (WordCmp.ofBool_decide_eq_one_iff _).1 ((WordCmp.andi_sge_zero_slt_ofNat (k := 5) (by decide) w).symm.trans h)

variable (x0 : FVec Ideal S16x128x3 .f32) (x1 : IVec S16x128 32) (x2 : FVec Ideal S5x128 .f32) (x3 : FVec Ideal S3x25x64 .f32)
  (x4 : FVec Ideal S3x64 .f32) (x5 : FVec Ideal S3x64x64 .f32) (x6 : FVec Ideal S3x64 .f32) (x7 : FVec Ideal S3x128x64 .f32)
  (x8 : FVec Ideal S3x64 .f32) (x9 : FVec Ideal S3x64x128 .f32) (x10 : FVec Ideal S3x128 .f32) (x11 : FVec Ideal S3x128x128 .f32)
  (x12 : FVec Ideal S3x128 .f32) (x13 : FVec Ideal S128x128 .f32) (x14 : FVec Ideal S128 .f32) (x15 : FVec Ideal S128x1 .f32)
  (x16 : FVec Ideal S1 .f32)

/-- Arguments of which the predicate holds are proper data. -/
theorem proper
    (h : (fn x0 x1 x2 x3 x4 x5 x6 x7 x8 x9 x10 x11 x12 x13 x14 x15 x16).1 = (fun _ => 1#1)
      ∧ (fn x0 x1 x2 x3 x4 x5 x6 x7 x8 x9 x10 x11 x12 x13 x14 x15 x16).2.1 = (fun _ => 1#1)
      ∧ (fn x0 x1 x2 x3 x4 x5 x6 x7 x8 x9 x10 x11 x12 x13 x14 x15 x16).2.2.1 = (fun _ => 1#1)
      ∧ (fn x0 x1 x2 x3 x4 x5 x6 x7 x8 x9 x10 x11 x12 x13 x14 x15 x16).2.2.2.1 = (fun _ => 1#1)
      ∧ (fn x0 x1 x2 x3 x4 x5 x6 x7 x8 x9 x10 x11 x12 x13 x14 x15 x16).2.2.2.2.1 = (fun _ => 1#1)
      ∧ (fn x0 x1 x2 x3 x4 x5 x6 x7 x8 x9 x10 x11 x12 x13 x14 x15 x16).2.2.2.2.2.1 = (fun _ => 1#1)
      ∧ (fn x0 x1 x2 x3 x4 x5 x6 x7 x8 x9 x10 x11 x12 x13 x14 x15 x16).2.2.2.2.2.2.1 = (fun _ => 1#1)
      ∧ (fn x0 x1 x2 x3 x4 x5 x6 x7 x8 x9 x10 x11 x12 x13 x14 x15 x16).2.2.2.2.2.2.2.1 = (fun _ => 1#1)
      ∧ (fn x0 x1 x2 x3 x4 x5 x6 x7 x8 x9 x10 x11 x12 x13 x14 x15 x16).2.2.2.2.2.2.2.2 = (fun _ => 1#1)) :
    (Data.of x0 x1 x2 x3 x4 x5 x6 x7 x8 x9 x10 x11 x12 x13 x14 x15 x16).Proper := by
  obtain ⟨h0, h1, h2, h5, h6, h7, h8, h11, h12⟩ := h
  refine ⟨fun c i d => fini_of_between ?_, fun c i => lt_of_named ?_, fun z q => fini_of_between ?_, fun b k f => fini_of_between ?_,
    fun b f => fini_of_between ?_, fun b k f => fini_of_between ?_, fun b f => fini_of_between ?_, fun b k q => fini_of_between ?_,
    fun b q => fini_of_between ?_⟩
  · exact congrFun h0 (ix3 c i d)
  · exact congrFun h1 (ix2 c i)
  · exact congrFun h2 (ix2 z q)
  · exact congrFun h5 (ix3 b k f)
  · exact congrFun h6 (ix2 b f)
  · exact congrFun h7 (ix3 b k f)
  · exact congrFun h8 (ix2 b f)
  · refine Eq.trans ?_ (congrFun h11 (ix3 b k q))
    pointwise [fn, fn_part1, fn_part2, fn_part3]
    rfl
  · refine Eq.trans ?_ (congrFun h12 (ix2 b q))
    pointwise [fn, fn_part1, fn_part2, fn_part3]
    rfl

end Cert.Pre_finite_in_range
-- ==== Proof.Body.lean ====
/- The kernel's body as a composition of a few vector functions: the table of Gaussians, a filter network, one
   interaction block, the output network. Every function is stated once and used for all three blocks. -/
module

public import proofs.«01_k».proof.Proof.Gen.KernelIdeal.Value
public import Idealize.ShloMosaic.Lib.Pipeline.ValueKit
public import Idealize.ShloMosaic.Lib.Pipeline.ReadBack

@[expose] public section

set_option maxRecDepth 16384

noncomputable section

namespace Cert.KernelIdeal.Body

open Idealize.ShloMosaic Cert.KernelIdeal Cert.KernelIdeal.Gen
open Idealize.ShloMosaic.TcCoe Idealize.SL.Sem

/-- Two copies of the features of every atom, side by side. -/
def pairUp (y : FVec Ideal S128x64 .f32) : FVec Ideal S128x128 .f32 :=
  concatenate S128x128 1 [⟨S128x64, y⟩, ⟨S128x64, y⟩] concatenates_S128x64_S128x64_S128x128_d1

/-- The join of an array with itself along the lanes is the pair. -/
theorem pairUp_fold (y : FVec Ideal S128x64 .f32) (h) :
    concatenate S128x128 1 [⟨S128x64, y⟩, ⟨S128x64, y⟩] h = pairUp y := rfl

/-- The four groups of 32 atoms, one under the other. -/
def stack4 (a b c d : FVec Ideal S32x64 .f32) : FVec Ideal S128x64 .f32 :=
  concatenate S128x64 0 [⟨S32x64, a⟩, ⟨S32x64, b⟩, ⟨S32x64, c⟩, ⟨S32x64, d⟩] concatenates_S32x64_S32x64_S32x64_S32x64_S128x64_d0

/-- The join of four groups of atoms along the rows is the stack. -/
theorem stack4_fold (a b c d : FVec Ideal S32x64 .f32) (h) :
    concatenate S128x64 0 [⟨S32x64, a⟩, ⟨S32x64, b⟩, ⟨S32x64, c⟩, ⟨S32x64, d⟩] h = stack4 a b c d := rfl

/-- The table of Gaussians of all pairs of atoms, from the positions, the group table and the tiled centers. -/
def gaussians (x0 : Vec Ideal S1x128x3 .f32) (x3 : Vec Ideal S128x100 .f32) (x4 : Vec Ideal S1x100 .f32) : FVec Ideal S4096x100 .bf16 :=
  k0_pay4 (k0_pay2 x0) (iota .tc S1x32x128 32 [1] iota_S1x32x128_d1_w32) k0_pay3 x3 x4

/-- The messages that an atom receives: the filtered features summed over all atoms, less the atom's own term. -/
def messages (ws : FVec Ideal S1x64 .f32) (y : FVec Ideal S128x64 .f32) (w0 w1 : Vec Ideal S1x1x4096x128 .f32) : FVec Ideal S128x64 .f32 :=
  k0_pay25 ws y (shapeCast S128x1x128 (pairUp y) shapeCasts_S128x128_S128x1x128)
    (k0_pay21 (shapeCast S128x1x128 (pairUp y) shapeCasts_S128x128_S128x1x128) w0)
    (k0_pay22 (shapeCast S128x1x128 (pairUp y) shapeCasts_S128x128_S128x1x128) w0) w1

/-- The input features of a block: one linear layer. -/
def features (x : FVec Ideal S128x128 .f32) (W : Vec Ideal S1x128x64 .f32) (b : Vec Ideal S1x64 .f32) : FVec Ideal S128x64 .f32 :=
  addf (matmul (φ₂ := .f32) dot_S128x128_S128x64_S128x64_1_0_0_1_n_n none x (shapeCast S128x64 W shapeCasts_S1x128x64_S128x64) (constant S128x64 .f32 0x00000000#32))
    (broadcastTo S128x64 (shapeCast S1x64 (shapeCast S64 b shapeCasts_S1x64_S64) shapeCasts_S64_S1x64) broadcasts_S1x64_S128x64)

/-- One interaction block: the atoms' vectors after it. -/
def block (f : Vec Ideal S4096x100 .bf16) (f0 : FVec Ideal S1x100 .f32) (x : FVec Ideal S128x128 .f32)
    (W1 : Vec Ideal S1x100x256 .bf16) (b1 : Vec Ideal S1x256 .f32) (W2 : Vec Ideal S1x128x128 .f32) (b2 : Vec Ideal S1x128 .f32)
    (iW : Vec Ideal S1x128x64 .f32) (ib : Vec Ideal S1x64 .f32) (oW : Vec Ideal S1x64x128 .f32) (ob : Vec Ideal S1x128 .f32)
    (dW : Vec Ideal S1x128x128 .f32) (db : Vec Ideal S1x128 .f32) : FVec Ideal S128x128 .f32 :=
  k0_pay27 x (messages (k0_pay13 f0 W1 b1 W2 b2) (features x iW ib) (k0_pay23 (k0_pay5 f W1 b1) W2 b2) (k0_pay24 (k0_pay5 f W1 b1) W2 b2))
    (k0_pay26 oW) ob dW db

/-- The output network: a hidden layer, a linear layer, and the sum over the atoms. -/
def head (x : FVec Ideal S128x128 .f32) (W1 : Vec Ideal S128x128 .f32) (b1 : Vec Ideal S128 .f32) (W2 : Vec Ideal S128x1 .f32)
    (b2 : Vec Ideal S1 .f32) : FVec Ideal S1x1x1 .f32 :=
  k0_pay1 (shapeCast S1x1 (multiReduction .add [0] S1
    (addf (matmul (φ₂ := .f32) dot_S128x128_S128x1_S128x1_1_0_0_1_n_n none
        (tanh (addf (matmul (φ₂ := .f32) dot_S128x128_S128x128_S128x128_1_0_0_1_n_n none x W1 (constant S128x128 .f32 0x00000000#32))
          (broadcastTo S128x128 (shapeCast S1x128 b1 shapeCasts_S128_S1x128) broadcasts_S1x128_S128x128)))
        W2 (constant S128x1 .f32 0x00000000#32))
      (broadcastTo S128x1 (shapeCast S1x1 b2 shapeCasts_S1_S1x1) broadcasts_S1x1_S128x1))
    0x00000000#32 reduces_S128x1_S1 (.inl rfl) rfl) shapeCasts_S1_S1x1)

/-- The whole body at one configuration, from the blocks its windows stage. -/
def body (x0 : Vec Ideal S1x128x3 .f32) (x1 : Vec Ideal S1x128x1 .i32) (x2 : Vec Ideal S5x128 .f32) (x3 : Vec Ideal S128x100 .f32)
    (x4 : Vec Ideal S1x100 .f32) (x5 : Vec Ideal S3x100x256 .bf16) (x6 : Vec Ideal S3x256 .f32) (x7 : Vec Ideal S3x128x128 .f32)
    (x8 : Vec Ideal S3x128 .f32) (x9 : Vec Ideal S3x128x64 .f32) (x10 : Vec Ideal S3x64 .f32) (x11 : Vec Ideal S3x64x128 .f32)
    (x12 : Vec Ideal S3x128 .f32) (x13 : Vec Ideal S3x128x128 .f32) (x14 : Vec Ideal S3x128 .f32) (x15 : Vec Ideal S128x128 .f32)
    (x16 : Vec Ideal S128 .f32) (x17 : Vec Ideal S128x1 .f32) (x18 : Vec Ideal S1 .f32) : FVec Ideal S1x1x1 .f32 :=
  head
    (block (gaussians x0 x3 x4) (k0_pay10 x4)
      (block (gaussians x0 x3 x4) (k0_pay10 x4)
        (block (gaussians x0 x3 x4) (k0_pay10 x4) (k0_pay16 x1 x2)
          (View.ld x5 (Rect.unit ![0, 0, 0] S1x100x256.size inb_S3x100x256_S1x100x256_0_0_0))
          (View.ld x6 (Rect.unit ![0, 0] S1x256.size inb_S3x256_S1x256_0_0))
          (View.ld x7 (Rect.unit ![0, 0, 0] S1x128x128.size inb_S3x128x128_S1x128x128_0_0_0))
          (View.ld x8 (Rect.unit ![0, 0] S1x128.size inb_S3x128_S1x128_0_0))
          (View.ld x9 (Rect.unit ![0, 0, 0] S1x128x64.size inb_S3x128x64_S1x128x64_0_0_0))
          (View.ld x10 (Rect.unit ![0, 0] S1x64.size inb_S3x64_S1x64_0_0))
          (View.ld x11 (Rect.unit ![0, 0, 0] S1x64x128.size inb_S3x64x128_S1x64x128_0_0_0))
          (View.ld x12 (Rect.unit ![0, 0] S1x128.size inb_S3x128_S1x128_0_0))
          (View.ld x13 (Rect.unit ![0, 0, 0] S1x128x128.size inb_S3x128x128_S1x128x128_0_0_0))
          (View.ld x14 (Rect.unit ![0, 0] S1x128.size inb_S3x128_S1x128_0_0)))
        (View.ld x5 (Rect.unit ![1, 0, 0] S1x100x256.size inb_S3x100x256_S1x100x256_1_0_0))
        (View.ld x6 (Rect.unit ![1, 0] S1x256.size inb_S3x256_S1x256_1_0))
        (View.ld x7 (Rect.unit ![1, 0, 0] S1x128x128.size inb_S3x128x128_S1x128x128_1_0_0))
        (View.ld x8 (Rect.unit ![1, 0] S1x128.size inb_S3x128_S1x128_1_0))
        (View.ld x9 (Rect.unit ![1, 0, 0] S1x128x64.size inb_S3x128x64_S1x128x64_1_0_0))
        (View.ld x10 (Rect.unit ![1, 0] S1x64.size inb_S3x64_S1x64_1_0))
        (View.ld x11 (Rect.unit ![1, 0, 0] S1x64x128.size inb_S3x64x128_S1x64x128_1_0_0))
        (View.ld x12 (Rect.unit ![1, 0] S1x128.size inb_S3x128_S1x128_1_0))
        (View.ld x13 (Rect.unit ![1, 0, 0] S1x128x128.size inb_S3x128x128_S1x128x128_1_0_0))
        (View.ld x14 (Rect.unit ![1, 0] S1x128.size inb_S3x128_S1x128_1_0)))
      (View.ld x5 (Rect.unit ![2, 0, 0] S1x100x256.size inb_S3x100x256_S1x100x256_2_0_0))
      (View.ld x6 (Rect.unit ![2, 0] S1x256.size inb_S3x256_S1x256_2_0))
      (View.ld x7 (Rect.unit ![2, 0, 0] S1x128x128.size inb_S3x128x128_S1x128x128_2_0_0))
      (View.ld x8 (Rect.unit ![2, 0] S1x128.size inb_S3x128_S1x128_2_0))
      (View.ld x9 (Rect.unit ![2, 0, 0] S1x128x64.size inb_S3x128x64_S1x128x64_2_0_0))
      (View.ld x10 (Rect.unit ![2, 0] S1x64.size inb_S3x64_S1x64_2_0))
      (View.ld x11 (Rect.unit ![2, 0, 0] S1x64x128.size inb_S3x64x128_S1x64x128_2_0_0))
      (View.ld x12 (Rect.unit ![2, 0] S1x128.size inb_S3x128_S1x128_2_0))
      (View.ld x13 (Rect.unit ![2, 0, 0] S1x128x128.size inb_S3x128x128_S1x128x128_2_0_0))
      (View.ld x14 (Rect.unit ![2, 0] S1x128.size inb_S3x128_S1x128_2_0)))
    x15 x16 x17 x18

variable (m : (ℓ : Loc nD τ sig) → Buf (Elt Ideal) ℓ)

set_option maxHeartbeats 4000000 in
/-- What the body leaves at a grid point in the result's block is the composition, at the blocks staged there. -/
theorem outs_eq (c : Dev nD) (t : Fin cfg0.N) : outsAt0 m c t
    = body (iblk m c 0 t) (iblk m c 1 t) (iblk m c 2 t) (iblk m c 3 t) (iblk m c 4 t) (iblk m c 5 t) (iblk m c 6 t) (iblk m c 7 t)
        (iblk m c 8 t) (iblk m c 9 t) (iblk m c 10 t) (iblk m c 11 t) (iblk m c 12 t) (iblk m c 13 t) (iblk m c 14 t) (iblk m c 15 t)
        (iblk m c 16 t) (iblk m c 17 t) (iblk m c 18 t) := by
  unfold outsAt0
  frame_open
  simp only [pairUp_fold, stack4_fold]
  simp (disch := decide) only [↓ View.readCov_skip, ↓ View.readCov_cons_toLoadRect, ↓ View.readCov_fill,
    View.read_writes_junk_eq_canon, View.canon_cons_unit_lit', View.ld_unit_lit', View.readCov_unit_lit',
    View.readCov_cons_unit_lit', View.readAt_eq_ld, Memref.IsWhole.read_unread]
  rfl

end Cert.KernelIdeal.Body
-- ==== Proof.Block.lean ====
/- One interaction block of the kernel, read at an index: with block-diagonal filter weights it is the block of the
   network with the messages summed over all atoms, less the atom's own term. -/
module

public import proofs.«01_k».proof.Proof.Body
public import proofs.«01_k».proof.Proof.Spec

@[expose] public section

noncomputable section

namespace Cert.KernelIdeal.Body

open Idealize.ShloMosaic Cert.KernelIdeal Cert.KernelIdeal.Gen Cert.Spec
open Idealize.ShloMosaic.TcCoe

/-- The atom `t` of the group `s` of 32 atoms. -/
abbrev atom (s : Fin 4) (t : Fin 32) : Fin 128 := cat (by decide : 4 * 32 = 128) s t

/-- The row of the table of pairs that belongs to the atom `a` and the place `t` in a group. -/
abbrev row (a : Fin 128) (t : Fin 32) : Fin 4096 := cat (by decide : 128 * 32 = 4096) a t

/-- The column of the table of Gaussians that belongs to a group and a center. -/
abbrev gcol (s : Fin 4) (g : Fin 25) : Fin 100 := cat (by decide : 4 * 25 = 100) s g

/-- The column of the hidden layer that belongs to a group and a unit. -/
abbrev hcol (s : Fin 4) (k : Fin 64) : Fin 256 := cat (by decide : 4 * 64 = 256) s k

/-- The column of the filters that belongs to the first or the second group of a pair of groups. -/
abbrev fcol (v : Fin 2) (f : Fin 64) : Fin 128 := cat (by decide : 2 * 64 = 128) v f

/-- The group `v` of the pair `u` of groups. -/
abbrev group (u v : Fin 2) : Fin 4 := cat (by decide : 2 * 2 = 4) u v

/-- Adding the two halves of a stack of rows and summing what is left sums the whole stack. -/
theorem sum_halves {n N : ℕ} (hN : n + n = N) (v : FVec Ideal ⟨3, ![N, 32, 128]⟩ .f32)
    (h₁ : (⟨3, ![N, 32, 128]⟩ : Shape).Slices ![0, 0, 0] ⟨3, ![n, 32, 128]⟩)
    (h₂ : (⟨3, ![N, 32, 128]⟩ : Shape).Slices ![n, 0, 0] ⟨3, ![n, 32, 128]⟩) (t : Fin 32) (l : Fin 128) :
    ∑ k : Fin n, addf (extractStridedSlice ⟨3, ![n, 32, 128]⟩ ![0, 0, 0] v h₁) (extractStridedSlice ⟨3, ![n, 32, 128]⟩ ![n, 0, 0] v h₂) (ix3 k t l)
      = ∑ k : Fin N, v (ix3 k t l) := by
  subst hN
  rw [Fin.sum_univ_add, ← Finset.sum_add_distrib]
  refine Finset.sum_congr rfl fun k _ => ?_
  rw [addf_apply]
  refine congrArg₂ (· + ·) (congrArg v (funext fun a => ?_)) (congrArg v (funext fun a => ?_)) <;>
    fin_cases a <;> apply Fin.ext <;> simp [ix3] <;> first | rfl | exact Nat.add_comm _ _

/-- One halving of a stack of rows: the upper half added to the lower one. -/
def halve (n N : ℕ) (h₁ : (⟨3, ![N, 32, 128]⟩ : Shape).Slices ![0, 0, 0] ⟨3, ![n, 32, 128]⟩)
    (h₂ : (⟨3, ![N, 32, 128]⟩ : Shape).Slices ![n, 0, 0] ⟨3, ![n, 32, 128]⟩) (v : FVec Ideal ⟨3, ![N, 32, 128]⟩ .f32) :
    FVec Ideal ⟨3, ![n, 32, 128]⟩ .f32 :=
  addf (extractStridedSlice ⟨3, ![n, 32, 128]⟩ ![0, 0, 0] v h₁) (extractStridedSlice ⟨3, ![n, 32, 128]⟩ ![n, 0, 0] v h₂)

/-- The seven halvings of the kernel's sum over 128 atoms. -/
def tree (v : FVec Ideal S128x32x128 .f32) : FVec Ideal S1x32x128 .f32 :=
  halve 1 2 slices_S2x32x128_o0_0_0_S1x32x128 slices_S2x32x128_o1_0_0_S1x32x128
    (halve 2 4 slices_S4x32x128_o0_0_0_S2x32x128 slices_S4x32x128_o2_0_0_S2x32x128
      (halve 4 8 slices_S8x32x128_o0_0_0_S4x32x128 slices_S8x32x128_o4_0_0_S4x32x128
        (halve 8 16 slices_S16x32x128_o0_0_0_S8x32x128 slices_S16x32x128_o8_0_0_S8x32x128
          (halve 16 32 slices_S32x32x128_o0_0_0_S16x32x128 slices_S32x32x128_o16_0_0_S16x32x128
            (halve 32 64 slices_S64x32x128_o0_0_0_S32x32x128 slices_S64x32x128_o32_0_0_S32x32x128
              (halve 64 128 slices_S128x32x128_o0_0_0_S64x32x128 slices_S128x32x128_o64_0_0_S64x32x128 v))))))

/-- The kernel's halvings sum over the atoms. -/
theorem tree_sum (v : FVec Ideal S128x32x128 .f32) (t : Fin 32) (l : Fin 128) :
    tree v (ix3 0 t l) = ∑ a : Fin 128, v (ix3 a t l) := by
  have h : ∀ {n N : ℕ} (hN : n + n = N) (h₁ h₂) (v : FVec Ideal ⟨3, ![N, 32, 128]⟩ .f32),
      ∑ k, halve n N h₁ h₂ v (ix3 k t l) = ∑ k, v (ix3 k t l) := fun hN h₁ h₂ v => sum_halves hN v h₁ h₂ t l
  have e : tree v (ix3 0 t l) = ∑ k : Fin 1, tree v (ix3 k t l) := (Fin.sum_univ_one fun k : Fin 1 => tree v (ix3 k t l)).symm
  rw [e]
  unfold tree
  exact (h rfl _ _ _).trans ((h rfl _ _ _).trans ((h rfl _ _ _).trans ((h rfl _ _ _).trans ((h rfl _ _ _).trans
    ((h rfl _ _ _).trans (h rfl _ _ _))))))

/-- The kernel's sum over the atoms of the filters times the features. -/
theorem tree_apply (yy : FVec Ideal S128x1x128 .f32) (w : Vec Ideal S1x1x4096x128 .f32) (t : Fin 32) (l : Fin 128) :
    k0_pay20 yy w (ix2 t l) = ∑ a : Fin 128, w (ix4 0 0 (row a t) l) * yy (ix3 a 0 l) := by
  have h : ∀ a : Fin 128, mulf (shapeCast S128x32x128 (shapeCast S4096x128 w shapeCasts_S1x1x4096x128_S4096x128) shapeCasts_S4096x128_S128x32x128)
      (broadcastTo S128x32x128 yy broadcasts_S128x1x128_S128x32x128) (ix3 a t l) = w (ix4 0 0 (row a t) l) * yy (ix3 a 0 l) := by
    intro a
    pointwise
    have e : (⟨a * 32 + t, by omega⟩ : Fin 4096) = row a t := Fin.ext (by simp [cat_val]; ring)
    rw [e]
  rw [← Finset.sum_congr rfl fun a _ => h a, ← tree_sum]
  have e : ∀ z : FVec Ideal S1x32x128 .f32, shapeCast S32x128 z shapeCasts_S1x32x128_S32x128 (ix2 t l) = z (ix3 0 t l) := by
    intro z
    pointwise
  exact e (tree _)

/-- The doubled features at a column are the features at the column's unit. -/
theorem pairUp_apply (y : FVec Ideal S128x64 .f32) (a : Fin 128) (v : Fin 2) (f : Fin 64) :
    shapeCast S128x1x128 (pairUp y) shapeCasts_S128x128_S128x1x128 (ix3 a 0 (fcol v f)) = y (ix2 a f) := by
  pointwise [pairUp]
  fin_cases v
  · rw [dif_pos (by simp [cat_val])]
    congr 2
    exact Fin.ext (by simp [cat_val])
  · rw [dif_neg (by simp [cat_val])]
    congr 2
    exact Fin.ext (by simp [cat_val])

/-- The stack of four groups at an atom of the group `2 u + v`. -/
theorem stack4_apply (z : Fin 2 → FVec Ideal S32x128 .f32) (u v : Fin 2) (t : Fin 32) (f : Fin 64) :
    stack4 (extractStridedSlice S32x64 ![0, 0] (z 0) slices_S32x128_o0_0_S32x64)
      (extractStridedSlice S32x64 ![0, 64] (z 0) slices_S32x128_o0_64_S32x64)
      (extractStridedSlice S32x64 ![0, 0] (z 1) slices_S32x128_o0_0_S32x64)
      (extractStridedSlice S32x64 ![0, 64] (z 1) slices_S32x128_o0_64_S32x64) (ix2 (atom (group u v) t) f)
      = z u (ix2 t (fcol v f)) := by
  pointwise [stack4]
  have ht := t.2
  fin_cases u <;> fin_cases v
  · rw [dif_pos (by simp [cat_val])]
    congr 2 <;> exact Fin.ext (by simp [cat_val])
  · rw [dif_neg (by simp [cat_val]), dif_pos (by simp [cat_val])]
    congr 2 <;> exact Fin.ext (by simp [cat_val])
  · rw [dif_neg (by simp [cat_val]; omega), dif_neg (by simp [cat_val]; omega), dif_pos (by simp [cat_val]; omega)]
    congr 2 <;> exact Fin.ext (by simp [cat_val]; try omega)
  · rw [dif_neg (by simp [cat_val]; omega), dif_neg (by simp [cat_val]; omega), dif_neg (by simp [cat_val]; omega)]
    congr 2 <;> exact Fin.ext (by simp [cat_val]; try omega)

/-- The messages as the stack of the four groups' sums, less the atoms' own terms. -/
theorem messages_fold (ws : FVec Ideal S1x64 .f32) (y : FVec Ideal S128x64 .f32) (w0 w1 : Vec Ideal S1x1x4096x128 .f32) :
    messages ws y w0 w1 = subf
      (stack4
        (extractStridedSlice S32x64 ![0, 0] (k0_pay20 (shapeCast S128x1x128 (pairUp y) shapeCasts_S128x128_S128x1x128) w0) slices_S32x128_o0_0_S32x64)
        (extractStridedSlice S32x64 ![0, 64] (k0_pay20 (shapeCast S128x1x128 (pairUp y) shapeCasts_S128x128_S128x1x128) w0) slices_S32x128_o0_64_S32x64)
        (extractStridedSlice S32x64 ![0, 0] (k0_pay20 (shapeCast S128x1x128 (pairUp y) shapeCasts_S128x128_S128x1x128) w1) slices_S32x128_o0_0_S32x64)
        (extractStridedSlice S32x64 ![0, 64] (k0_pay20 (shapeCast S128x1x128 (pairUp y) shapeCasts_S128x128_S128x1x128) w1) slices_S32x128_o0_64_S32x64))
      (mulf (broadcastTo S128x64 ws broadcasts_S1x64_S128x64) y) := rfl

/-- The messages at an atom: the filters times the features summed over all atoms, less the atom's own term. -/
theorem messages_apply (ws : FVec Ideal S1x64 .f32) (y : FVec Ideal S128x64 .f32) (w : Fin 2 → Vec Ideal S1x1x4096x128 .f32)
    (u v : Fin 2) (t : Fin 32) (f : Fin 64) :
    messages ws y (w 0) (w 1) (ix2 (atom (group u v) t) f)
      = ∑ a, w u (ix4 0 0 (row a t) (fcol v f)) * y (ix2 a f) - ws (ix2 0 f) * y (ix2 (atom (group u v) t) f) := by
  have h := stack4_apply (fun u => k0_pay20 (shapeCast S128x1x128 (pairUp y) shapeCasts_S128x128_S128x1x128) (w u)) u v t f
  simp only [tree_apply, pairUp_apply] at h
  rw [← h, messages_fold]
  pointwise

/-- The kernel's arrays of one block hold the block's weights: the filter weights on the diagonal of groups, the rest as
    they are. -/
structure Holds (L : Layer) (W1 : Vec Ideal S1x100x256 .bf16) (b1 : Vec Ideal S1x256 .f32) (W2 : Vec Ideal S1x128x128 .f32)
    (b2 : Vec Ideal S1x128 .f32) (iW : Vec Ideal S1x128x64 .f32) (ib : Vec Ideal S1x64 .f32) (oW : Vec Ideal S1x64x128 .f32)
    (ob : Vec Ideal S1x128 .f32) (dW : Vec Ideal S1x128x128 .f32) (db : Vec Ideal S1x128 .f32) : Prop where
  W1 : ∀ s g s' k, W1 (ix3 0 (gcol s g) (hcol s' k)) = if s = s' then L.fW1 g k else 0
  b1 : ∀ s k, b1 (ix2 0 (hcol s k)) = L.fb1 k
  W2 : ∀ v k v' f, W2 (ix3 0 (fcol v k) (fcol v' f)) = if v = v' then L.fW2 k f else 0
  b2 : ∀ v f, b2 (ix2 0 (fcol v f)) = L.fb2 f
  iW : ∀ i f, iW (ix3 0 i f) = L.iW i f
  ib : ∀ f, ib (ix2 0 f) = L.ib f
  oW : ∀ f q, oW (ix3 0 f q) = L.oW f q
  ob : ∀ q, ob (ix2 0 q) = L.ob q
  dW : ∀ i q, dW (ix3 0 i q) = L.dW i q
  db : ∀ q, db (ix2 0 q) = L.db q

section
variable {L : Layer} {W1 : Vec Ideal S1x100x256 .bf16} {b1 : Vec Ideal S1x256 .f32} {W2 : Vec Ideal S1x128x128 .f32}
  {b2 : Vec Ideal S1x128 .f32} {iW : Vec Ideal S1x128x64 .f32} {ib : Vec Ideal S1x64 .f32} {oW : Vec Ideal S1x64x128 .f32}
  {ob : Vec Ideal S1x128 .f32} {dW : Vec Ideal S1x128x128 .f32} {db : Vec Ideal S1x128 .f32}
  (H : Holds L W1 b1 W2 b2 iW ib oW ob dW db)
include H

/-- The hidden layer at a row and a column of the group `s` reads the Gaussians of that group. -/
theorem hidden_apply (f : Vec Ideal S4096x100 .bf16) (p : Fin 4096) (s : Fin 4) (k : Fin 64) :
    k0_pay5 f W1 b1 (ix2 p (hcol s k)) = Ideal.tanh (lin (fun g => f (ix2 p (gcol s g))) L.fW1 L.fb1 k) := by
  pointwise [k0_pay5]
  rw [H.b1, sum_group _ _ (fun x => W1 (ix3 0 x (hcol s k))) s (fun g => L.fW1 g k) fun s' g => H.W1 s' g s k]
  rfl

/-- The filters of the first pair of groups. -/
theorem filters0_apply (h : FVec Ideal S4096x256 .f32) (p : Fin 4096) (v : Fin 2) (f : Fin 64) :
    k0_pay23 h W2 b2 (ix4 0 0 p (fcol v f)) = lin (fun k => h (ix2 p (hcol (group 0 v) k))) L.fW2 L.fb2 f := by
  pointwise [k0_pay23]
  rw [H.b2, sum_group _ _ (fun x => W2 (ix3 0 x (fcol v f))) v (fun k => L.fW2 k f) fun v' k => H.W2 v' k v f]
  refine congrArg (· + _) (Finset.sum_congr rfl fun k _ => ?_)
  congr 3
  exact Fin.ext (by simp [cat_val])

/-- The filters of the second pair of groups. -/
theorem filters1_apply (h : FVec Ideal S4096x256 .f32) (p : Fin 4096) (v : Fin 2) (f : Fin 64) :
    k0_pay24 h W2 b2 (ix4 0 0 p (fcol v f)) = lin (fun k => h (ix2 p (hcol (group 1 v) k))) L.fW2 L.fb2 f := by
  pointwise [k0_pay24]
  rw [H.b2, sum_group _ _ (fun x => W2 (ix3 0 x (fcol v f))) v (fun k => L.fW2 k f) fun v' k => H.W2 v' k v f]
  refine congrArg (· + _) (Finset.sum_congr rfl fun k _ => ?_)
  congr 3
  exact Fin.ext (by simp [cat_val]; ring)

/-- The filter of an atom with itself. -/
theorem self_apply (f0 : FVec Ideal S1x100 .f32) (G : Fin 25 → EReal) (hf0 : ∀ s g, f0 (ix2 0 (gcol s g)) = G g) (f : Fin 64) :
    k0_pay13 f0 W1 b1 W2 b2 (ix2 0 f) = L.net G f := by
  pointwise [k0_pay13]
  have e : (⟨f, by omega⟩ : Fin 128) = fcol 0 f := Fin.ext (by simp [cat_val])
  rw [e, H.b2, sum_group _ _ (fun x => W2 (ix3 0 x (fcol 0 f))) 0 (fun k => L.fW2 k f) fun v' k => H.W2 v' k 0 f]
  refine congrArg (· + _) (Finset.sum_congr rfl fun k _ => ?_)
  have e : (⟨fcol 0 k, by omega⟩ : Fin 256) = hcol 0 k := Fin.ext (by simp [cat_val])
  rw [e, H.b1, sum_group _ _ (fun x => W1 (ix3 0 x (hcol 0 k))) 0 (fun g => L.fW1 g k) fun s' g => H.W1 s' g 0 k]
  simp only [hf0]
  rfl

/-- The input features of a block. -/
theorem features_apply (x : FVec Ideal S128x128 .f32) (X : Fin 128 → Fin 128 → EReal) (hx : ∀ i q, x (ix2 i q) = X i q)
    (i : Fin 128) (f : Fin 64) : features x iW ib (ix2 i f) = L.feat X i f := by
  pointwise [features]
  simp only [hx, H.iW, H.ib]
  rfl

/-- The atoms' vectors after a block from the messages. -/
theorem update_apply (x : FVec Ideal S128x128 .f32) (X : Fin 128 → Fin 128 → EReal) (hx : ∀ i q, x (ix2 i q) = X i q)
    (g : FVec Ideal S128x64 .f32) (M : Fin 128 → Fin 64 → EReal) (hg : ∀ i f, g (ix2 i f) = M i f) (i q : Fin 128) :
    k0_pay27 x g (k0_pay26 oW) ob dW db (ix2 i q) = L.update X M i q := by
  pointwise [k0_pay27, k0_pay26]
  simp only [hx, hg, H.oW, H.ob, H.dW, H.db]
  exact add_assoc _ _ _

/-- One block of the kernel at an index. -/
theorem block_apply (f : Vec Ideal S4096x100 .bf16) (d : Fin 128 → Fin 128 → EReal)
    (hf : ∀ a t s g, f (ix2 (row a t) (gcol s g)) = gauss (d a (atom s t)) g)
    (f0 : FVec Ideal S1x100 .f32) (hf0 : ∀ s g, f0 (ix2 0 (gcol s g)) = gauss 0 g)
    (x : FVec Ideal S128x128 .f32) (X : Fin 128 → Fin 128 → EReal) (hx : ∀ i q, x (ix2 i q) = X i q) (i q : Fin 128) :
    block f f0 x W1 b1 W2 b2 iW ib oW ob dW db (ix2 i q) = L.update X (L.messAll d X) i q := by
  refine update_apply H x X hx _ _ (fun i f' => ?_) i q
  obtain ⟨s, t, rfl⟩ := exists_cat (by decide : 4 * 32 = 128) i
  obtain ⟨u, v, rfl⟩ := exists_cat (by decide : 2 * 2 = 4) s
  refine (messages_apply _ _ ![k0_pay23 (k0_pay5 f W1 b1) W2 b2, k0_pay24 (k0_pay5 f W1 b1) W2 b2] u v t f').trans ?_
  rw [self_apply H f0 _ hf0]
  have hw : ∀ p, ![k0_pay23 (k0_pay5 f W1 b1) W2 b2, k0_pay24 (k0_pay5 f W1 b1) W2 b2] u (ix4 0 0 p (fcol v f'))
      = lin (fun k => k0_pay5 f W1 b1 (ix2 p (hcol (group u v) k))) L.fW2 L.fb2 f' := by
    intro p
    fin_cases u
    · exact filters0_apply H _ p v f'
    · exact filters1_apply H _ p v f'
  simp only [hw, features_apply H x X hx, hidden_apply H, hf]
  rfl

end

/-- The output network at its only index. -/
theorem head_apply (x : FVec Ideal S128x128 .f32) (X : Fin 128 → Fin 128 → EReal) (hx : ∀ i q, x (ix2 i q) = X i q)
    (W1 : Vec Ideal S128x128 .f32) (b1 : Vec Ideal S128 .f32) (W2 : Vec Ideal S128x1 .f32) (b2 : Vec Ideal S1 .f32) :
    head x W1 b1 W2 b2 (ix3 0 0 0)
      = energy (fun k q => W1 (ix2 k q)) (fun q => b1 (ix1 q)) (fun k q => W2 (ix2 k q)) (fun q => b2 (ix1 q)) X := by
  pointwise [head, k0_pay1]
  simp only [hx]
  rfl

end Cert.KernelIdeal.Body
-- ==== Proof.Config.lean ====
/- The kernel's body at one configuration: the distances, the table of Gaussians, the first vectors of the atoms, and with
   them the energy of the network whose messages are summed over all atoms, less the atom's own term. -/
module

public import proofs.«01_k».proof.Proof.Block
public import Idealize.ShloMosaic.Lib.WordCmp

@[expose] public section

noncomputable section

namespace Cert.KernelIdeal.Body

open Idealize.ShloMosaic Cert.KernelIdeal Cert.KernelIdeal.Gen Cert.Spec
open Idealize.ShloMosaic.TcCoe

/-- The named constant is its exact value. -/
theorem neg_alpha_value : (Named.named (F := Ideal) κ "neg_alpha" 3241693676#32 : Ideal .f32) = negAlpha :=
  IdealRules.named_const.ideal_named_scalar _ _ _ _ rfl

/-- The word of the literal 2. -/
theorem two_value : Ideal.ofBits .f32 1073741824#32 = ((2 : ℝ) : EReal) := by
  simp [Ideal.ofBits, Ideal.ieee, -EReal.coe_mul]
  norm_num

/-- The bit of a comparison of two small numbers, as a value. -/
theorem bit_value {a b : ℕ} (ha : a < 2 ^ 32) (hb : b < 2 ^ 32) :
    (FloatOps.sitofp .f32 (BitVec.setWidth 32 (IntOp.cmpi .eq (BitVec.ofNat 32 a) (BitVec.ofNat 32 b))) : Ideal .f32)
      = if a = b then 1 else 0 := by
  rw [WordCmp.cmpi_eq_ofNat ha hb]
  by_cases h : a = b
  · simp only [h, decide_true, if_true]
    exact congrArg (fun z : ℤ => ((z : ℝ) : EReal)) (by decide : (BitVec.setWidth 32 (BitVec.ofBool true)).toInt = 1) |>.trans (by simp)
  · simp only [h, decide_false, if_false]
    exact congrArg (fun z : ℤ => ((z : ℝ) : EReal)) (by decide : (BitVec.setWidth 32 (BitVec.ofBool false)).toInt = 0) |>.trans (by simp)

/-- The kernel's word for the place of an atom in its group. -/
theorem place_word : ∀ x : Fin 128,
    Scalar.select
      (IntOp.andi
        (IntOp.xori
          (IntOp.cmpi .slt (IntOp.remsi .vector (BitVec.ofNat 32 x) (Scalar.select (Scalar.cmpi .eq 32#32 0#32) 1#32 32#32)) 0#32)
          (Scalar.cmpi .slt (Scalar.select (Scalar.cmpi .eq 32#32 0#32) 1#32 32#32) 0#32))
        (IntOp.cmpi .ne (IntOp.remsi .vector (BitVec.ofNat 32 x) (Scalar.select (Scalar.cmpi .eq 32#32 0#32) 1#32 32#32)) 0#32))
      (IntOp.addi (IntOp.remsi .vector (BitVec.ofNat 32 x) (Scalar.select (Scalar.cmpi .eq 32#32 0#32) 1#32 32#32))
        (Scalar.select (Scalar.cmpi .eq 32#32 0#32) 1#32 32#32))
      (IntOp.remsi .vector (BitVec.ofNat 32 x) (Scalar.select (Scalar.cmpi .eq 32#32 0#32) 1#32 32#32))
    = BitVec.ofNat 32 (x % 32) := by
  decide +kernel

/-- The kernel's distances are the distances of the positions. -/
theorem distances_apply (x0 : Vec Ideal S1x128x3 .f32) (P : Fin 128 → Fin 3 → EReal) (h0 : ∀ a d, x0 (ix3 0 a d) = P a d)
    (hP : ∀ a d, Fini (P a d)) (a : Fin 128) (t : Fin 32) (l : Fin 128) : k0_pay2 x0 (ix3 a t l) = dist (P a) (P l) := by
  pointwise [k0_pay2]
  have ha := a.2
  have hl := l.2
  rw [WordCmp.cmpi_eq_ofNat (by omega) (by omega)]
  by_cases h : a = l
  · subst h
    simp only [decide_true]
    rw [show Scalar.select (BitVec.ofBool true) (0 : EReal) _ = 0 from rfl, dist_self (hP a), sqrt_zero]
  · have h' : ¬ (a : ℕ) = l := fun e => h (Fin.ext e)
    simp only [h', decide_false, h0, two_value]
    exact dist_expand (hP a) (hP l)

/-- A sum over all atoms with the masks of one place and one group is the term of that atom. -/
theorem pick_sum (r : Fin 128 → EReal) (s : Fin 4) (t : Fin 32) (v : Fin 128 → EReal)
    (hv : ∀ s' t', v (atom s' t') = if s' = s then 1 else 0) :
    ∑ x, r x * (if (t : ℕ) = x % 32 then 1 else 0) * v x = r (atom s t) := by
  rw [sum_group _ (fun x => r x * (if (t : ℕ) = x % 32 then 1 else 0)) v s (fun _ => 1) hv, Finset.sum_eq_single t]
  · simp [cat_mod]
  · intro t' _ h
    have : ¬ (t : ℕ) = t' := fun e => h (Fin.ext e.symm)
    simp [cat_mod, this]
  · exact fun h => absurd (Finset.mem_univ t) h

/-- The table of Gaussians at a pair of atoms and a center. -/
theorem gaussians_apply (x0 : Vec Ideal S1x128x3 .f32) (P : Fin 128 → Fin 3 → EReal) (h0 : ∀ a d, x0 (ix3 0 a d) = P a d)
    (hP : ∀ a d, Fini (P a d)) (x3 : Vec Ideal S128x100 .f32)
    (h3 : ∀ s t s' g, x3 (ix2 (atom s t) (gcol s' g)) = if s = s' then 1 else 0)
    (x4 : Vec Ideal S1x100 .f32) (h4 : ∀ s g, x4 (ix2 0 (gcol s g)) = center g) (a : Fin 128) (t : Fin 32) (s : Fin 4) (g : Fin 25) :
    gaussians x0 x3 x4 (ix2 (row a t) (gcol s g)) = gauss (dist (P a) (P (atom s t))) g := by
  have h : ∀ r : FVec Ideal S128x32x128 .f32, k0_pay4 r (iota .tc S1x32x128 32 [1] iota_S1x32x128_d1_w32) k0_pay3 x3 x4 (ix2 (row a t) (gcol s g))
      = gauss (r (ix3 a t (atom s t))) g := by
    intro r
    pointwise [k0_pay4, k0_pay3]
    have ht := t.2
    have hb : ∀ x : Fin 128, (FloatOps.sitofp .f32 (BitVec.setWidth 32 (IntOp.cmpi .eq (BitVec.ofNat 32 t) (BitVec.ofNat 32 (x % 32)))) : Ideal .f32)
        = if (t : ℕ) = x % 32 then 1 else 0 := fun x => bit_value (by omega) (by omega)
    have e₁ : (⟨(row a t : ℕ) / 32, by omega⟩ : Fin 128) = a := Fin.ext (cat_div _ a t)
    have e₂ : (⟨(row a t : ℕ) % 32, by omega⟩ : Fin 32) = t := Fin.ext (cat_mod _ a t)
    simp only [place_word, e₁, e₂, cat_mod, hb, neg_alpha_value, h4]
    rw [pick_sum (fun x => r (ix3 a t x)) s t (fun x => x3 (ix2 x (gcol s g))) (fun s' t' => h3 s' t' s g)]
    rfl
  rw [gaussians, h, distances_apply x0 P h0 hP]

/-- The Gaussians of an atom with itself. -/
theorem selfGaussians_apply (x4 : Vec Ideal S1x100 .f32) (h4 : ∀ s g, x4 (ix2 0 (gcol s g)) = center g) (s : Fin 4) (g : Fin 25) :
    k0_pay10 x4 (ix2 0 (gcol s g)) = gauss 0 g := by
  rw [gauss_zero]
  pointwise [k0_pay10]
  rw [neg_alpha_value, h4]

/-- The first vectors of the atoms are the rows of the embedding at the atomic numbers. -/
theorem embed_apply (x1 : Vec Ideal S1x128x1 .i32) (A : Fin 128 → Fin 5) (h1 : ∀ i, x1 (ix3 0 i 0) = BitVec.ofNat 32 (A i))
    (x2 : Vec Ideal S5x128 .f32) (i q : Fin 128) : k0_pay16 x1 x2 (ix2 i q) = x2 (ix2 (A i) q) := by
  pointwise [k0_pay16]
  rw [h1, Finset.sum_eq_single (A i)]
  · have := (A i).2
    rw [bit_value (by omega) (by omega), if_pos rfl, one_mul]
  · intro z _ hz
    have := (A i).2
    have := z.2
    rw [bit_value (by omega) (by omega), if_neg fun e => hz (Fin.ext e.symm), zero_mul]
  · exact fun h => absurd (Finset.mem_univ _) h

/-- A load of one matrix of a stack. -/
theorem ld_matrix {e : EltTy} {n k l : ℕ} (x : Vec Ideal ⟨3, ![n, k, l]⟩ e) (b : Fin n) (h) (i : Fin k) (j : Fin l) :
    View.ld (Val := Elt Ideal) x (Rect.unit (s := ⟨3, ![n, k, l]⟩) ![b, 0, 0] ![1, k, l] h) (ix3 0 i j) = x (ix3 b i j) := by
  refine congrArg x (funext fun a => ?_)
  fin_cases a <;> apply Fin.ext <;> simp [ix3, Rect.unit]

/-- A load of one row of a matrix. -/
theorem ld_row {e : EltTy} {n k : ℕ} (x : Vec Ideal ⟨2, ![n, k]⟩ e) (b : Fin n) (h) (i : Fin k) :
    View.ld (Val := Elt Ideal) x (Rect.unit (s := ⟨2, ![n, k]⟩) ![b, 0] ![1, k] h) (ix2 0 i) = x (ix2 b i) := by
  refine congrArg x (funext fun a => ?_)
  fin_cases a <;> apply Fin.ext <;> simp [ix2, Rect.unit]

/-- The arrays that the body reads hold the data of one configuration and the weights of the three blocks. -/
structure Staged (P : Fin 128 → Fin 3 → EReal) (A : Fin 128 → Fin 5) (L : Fin 3 → Layer)
    (x0 : Vec Ideal S1x128x3 .f32) (x1 : Vec Ideal S1x128x1 .i32) (x3 : Vec Ideal S128x100 .f32)
    (x4 : Vec Ideal S1x100 .f32) (x5 : Vec Ideal S3x100x256 .bf16) (x6 : Vec Ideal S3x256 .f32) (x7 : Vec Ideal S3x128x128 .f32)
    (x8 : Vec Ideal S3x128 .f32) (x9 : Vec Ideal S3x128x64 .f32) (x10 : Vec Ideal S3x64 .f32) (x11 : Vec Ideal S3x64x128 .f32)
    (x12 : Vec Ideal S3x128 .f32) (x13 : Vec Ideal S3x128x128 .f32) (x14 : Vec Ideal S3x128 .f32) : Prop where
  pos : ∀ a d, x0 (ix3 0 a d) = P a d
  fin : ∀ a d, Fini (P a d)
  num : ∀ i, x1 (ix3 0 i 0) = BitVec.ofNat 32 (A i)
  grp : ∀ s t s' g, x3 (ix2 (atom s t) (gcol s' g)) = if s = s' then 1 else 0
  cen : ∀ s g, x4 (ix2 0 (gcol s g)) = center g
  W1 : ∀ b s g s' k, x5 (ix3 b (gcol s g) (hcol s' k)) = if s = s' then (L b).fW1 g k else 0
  b1 : ∀ b s k, x6 (ix2 b (hcol s k)) = (L b).fb1 k
  W2 : ∀ b v k v' f, x7 (ix3 b (fcol v k) (fcol v' f)) = if v = v' then (L b).fW2 k f else 0
  b2 : ∀ b v f, x8 (ix2 b (fcol v f)) = (L b).fb2 f
  iW : ∀ b i f, x9 (ix3 b i f) = (L b).iW i f
  ib : ∀ b f, x10 (ix2 b f) = (L b).ib f
  oW : ∀ b f q, x11 (ix3 b f q) = (L b).oW f q
  ob : ∀ b q, x12 (ix2 b q) = (L b).ob q
  dW : ∀ b i q, x13 (ix3 b i q) = (L b).dW i q
  db : ∀ b q, x14 (ix2 b q) = (L b).db q

/-- The body at one configuration is the energy of the network in its first form. -/
theorem body_apply {P : Fin 128 → Fin 3 → EReal} {A : Fin 128 → Fin 5} {L : Fin 3 → Layer}
    {x0 : Vec Ideal S1x128x3 .f32} {x1 : Vec Ideal S1x128x1 .i32} {x3 : Vec Ideal S128x100 .f32}
    {x4 : Vec Ideal S1x100 .f32} {x5 : Vec Ideal S3x100x256 .bf16} {x6 : Vec Ideal S3x256 .f32} {x7 : Vec Ideal S3x128x128 .f32}
    {x8 : Vec Ideal S3x128 .f32} {x9 : Vec Ideal S3x128x64 .f32} {x10 : Vec Ideal S3x64 .f32} {x11 : Vec Ideal S3x64x128 .f32}
    {x12 : Vec Ideal S3x128 .f32} {x13 : Vec Ideal S3x128x128 .f32} {x14 : Vec Ideal S3x128 .f32}
    (H : Staged P A L x0 x1 x3 x4 x5 x6 x7 x8 x9 x10 x11 x12 x13 x14) (x2 : Vec Ideal S5x128 .f32)
    (x15 : Vec Ideal S128x128 .f32) (x16 : Vec Ideal S128 .f32) (x17 : Vec Ideal S128x1 .f32) (x18 : Vec Ideal S1 .f32) :
    body x0 x1 x2 x3 x4 x5 x6 x7 x8 x9 x10 x11 x12 x13 x14 x15 x16 x17 x18 (ix3 0 0 0)
      = energy (fun k q => x15 (ix2 k q)) (fun q => x16 (ix1 q)) (fun k q => x17 (ix2 k q)) (fun q => x18 (ix1 q))
          ((L 2).stepAll (fun i j => dist (P i) (P j)) ((L 1).stepAll (fun i j => dist (P i) (P j))
            ((L 0).stepAll (fun i j => dist (P i) (P j)) fun i q => x2 (ix2 (A i) q)))) := by
  have hf := gaussians_apply x0 P H.pos H.fin x3 H.grp x4 H.cen
  have hf0 := selfGaussians_apply x4 H.cen
  have holds : ∀ (b : Fin 3) h5 h6 h7 h8 h9 h10 h11 h12 h13 h14, Holds (L b)
      (View.ld x5 (Rect.unit ![b, 0, 0] S1x100x256.size h5)) (View.ld x6 (Rect.unit ![b, 0] S1x256.size h6))
      (View.ld x7 (Rect.unit ![b, 0, 0] S1x128x128.size h7)) (View.ld x8 (Rect.unit ![b, 0] S1x128.size h8))
      (View.ld x9 (Rect.unit ![b, 0, 0] S1x128x64.size h9)) (View.ld x10 (Rect.unit ![b, 0] S1x64.size h10))
      (View.ld x11 (Rect.unit ![b, 0, 0] S1x64x128.size h11)) (View.ld x12 (Rect.unit ![b, 0] S1x128.size h12))
      (View.ld x13 (Rect.unit ![b, 0, 0] S1x128x128.size h13)) (View.ld x14 (Rect.unit ![b, 0] S1x128.size h14)) := by
    intro b h5 h6 h7 h8 h9 h10 h11 h12 h13 h14
    exact ⟨fun s g s' k => (ld_matrix x5 b h5 _ _).trans (H.W1 b s g s' k), fun s k => (ld_row x6 b h6 _).trans (H.b1 b s k),
      fun v k v' f => (ld_matrix x7 b h7 _ _).trans (H.W2 b v k v' f), fun v f => (ld_row x8 b h8 _).trans (H.b2 b v f),
      fun i f => (ld_matrix x9 b h9 _ _).trans (H.iW b i f), fun f => (ld_row x10 b h10 _).trans (H.ib b f),
      fun f q => (ld_matrix x11 b h11 _ _).trans (H.oW b f q), fun q => (ld_row x12 b h12 _).trans (H.ob b q),
      fun i q => (ld_matrix x13 b h13 _ _).trans (H.dW b i q), fun q => (ld_row x14 b h14 _).trans (H.db b q)⟩
  exact head_apply _ _ (block_apply (holds 2 _ _ _ _ _ _ _ _ _ _) _ _ hf _ hf0 _ _
    (block_apply (holds 1 _ _ _ _ _ _ _ _ _ _) _ _ hf _ hf0 _ _
      (block_apply (holds 0 _ _ _ _ _ _ _ _ _ _) _ _ hf _ hf0 _ _ (embed_apply x1 A H.num x2)))) _ _ _ _

end Cert.KernelIdeal.Body
-- ==== Proof.Window.lean ====
/- A host scatter that writes one window of a stack of matrices at a fixed corner, read at an index. -/
module

public import Idealize.ShloMosaic.Lib.Pointwise
public import Idealize.ShloMosaic.Lib.Routing.OpsSet
public import Idealize.ShloMosaic.Lib.Routing.OpsPair

@[expose] public section

noncomputable section

namespace Cert.Window

open Idealize.ShloMosaic

variable {B N M n k : ℕ}

/-- The scatter that writes the same window of every matrix of a stack, its corner given by two words. -/
abbrev dims (wf : ScatterDims.WF ⟨3, ![B, N, M]⟩ ⟨1, ![2]⟩ ⟨3, ![B, n, k]⟩ [0, 1, 2] [] [1, 2] 0) :
    ScatterDims ⟨3, ![B, N, M]⟩ ⟨1, ![2]⟩ ⟨3, ![B, n, k]⟩ where
  updateWindowDims := [0, 1, 2]
  insertedWindowDims := []
  scatterDimsToOperandDims := [1, 2]
  indexVectorDim := 0
  wf := wf

/-- Where an update of the window lands. -/
theorem lands (wf : ScatterDims.WF ⟨3, ![B, N, M]⟩ ⟨1, ![2]⟩ ⟨3, ![B, n, k]⟩ [0, 1, 2] [] [1, 2] 0)
    (idx : IVec ⟨1, ![2]⟩ 32) (r c : ℕ) (hr : (idx (ix1 0)).toInt = r) (hc : (idx (ix1 1)).toInt = c)
    (b : Fin B) (i : Fin n) (j : Fin k) (b' : Fin B) (i' : Fin N) (j' : Fin M) :
    (dims wf).resultIdx? (ix3 b i j) idx = some (ix3 b' i' j') ↔ b = b' ∧ r + i = i' ∧ c + j = (j' : ℕ) := by
  have s0 : (dims wf).start (ix3 b i j) idx 0 = 0 := rfl
  have s1 : (dims wf).start (ix3 b i j) idx 1 = r := by
    rw [← hr]
    refine congrArg (fun x => (idx x).toInt) (funext fun a => ?_)
    fin_cases a
    rfl
  have s2 : (dims wf).start (ix3 b i j) idx 2 = c := by
    rw [← hc]
    refine congrArg (fun x => (idx x).toInt) (funext fun a => ?_)
    fin_cases a
    rfl
  have w0 : (dims wf).window (ix3 b i j) 0 = b := rfl
  have w1 : (dims wf).window (ix3 b i j) 1 = i := rfl
  have w2 : (dims wf).window (ix3 b i j) 2 = j := rfl
  rw [Routing.resultIdx?_eq_some]
  constructor
  · intro h
    have h0 := h 0
    have h1 := h 1
    have h2 := h 2
    rw [s0, w0] at h0
    rw [s1, w1] at h1
    rw [s2, w2] at h2
    change (0 : ℤ) + b = b' at h0
    change (r : ℤ) + i = i' at h1
    change (c : ℤ) + j = j' at h2
    exact ⟨Fin.ext (by omega), by omega, by omega⟩
  · rintro ⟨rfl, h1, h2⟩ a
    fin_cases a
    · change (dims wf).start (ix3 b i j) idx 0 + ((dims wf).window (ix3 b i j) 0 : ℤ) = (b : ℕ)
      rw [s0, w0, zero_add]
    · change (dims wf).start (ix3 b i j) idx 1 + ((dims wf).window (ix3 b i j) 1 : ℤ) = (i' : ℕ)
      rw [s1, w1]
      omega
    · change (dims wf).start (ix3 b i j) idx 2 + ((dims wf).window (ix3 b i j) 2 : ℤ) = (j' : ℕ)
      rw [s2, w2]
      omega

/-- Every index of a rank 3 array is written by its three coordinates. -/
theorem exists_ix3 {B n k : ℕ} (p : (⟨3, ![B, n, k]⟩ : Shape).Idx) : ∃ (b : Fin B) (i : Fin n) (j : Fin k), p = ix3 b i j :=
  ⟨p 0, p 1, p 2, funext fun a => by fin_cases a <;> rfl⟩

/-- The scatter at an element of the window: the update there. -/
theorem scatter_inside {α : Type} (wf : ScatterDims.WF ⟨3, ![B, N, M]⟩ ⟨1, ![2]⟩ ⟨3, ![B, n, k]⟩ [0, 1, 2] [] [1, 2] 0)
    (x : (⟨3, ![B, N, M]⟩ : Shape).Idx → α) (idx : IVec ⟨1, ![2]⟩ 32) (u : (⟨3, ![B, n, k]⟩ : Shape).Idx → α)
    (r c : ℕ) (hr : (idx (ix1 0)).toInt = r) (hc : (idx (ix1 1)).toInt = c)
    (b : Fin B) (i : Fin n) (j : Fin k) (i' : Fin N) (j' : Fin M) (hi : r + i = i') (hj : c + j = (j' : ℕ)) :
    Host.scatter (dims wf) (fun _ y => y) x idx u (ix3 b i' j') = u (ix3 b i j) := by
  refine Routing.scatter_set_hit _ _ _ _ _ _ (fun p hp => ?_) (ix3 b i j) ((lands wf idx r c hr hc b i j b i' j').2 ⟨rfl, hi, hj⟩)
  obtain ⟨b₁, i₁, j₁, rfl⟩ := exists_ix3 p
  obtain ⟨rfl, h1, h2⟩ := (lands wf idx r c hr hc _ _ _ b i' j').1 hp
  congr 2 <;> exact Fin.ext (by omega)

/-- The scatter at an element outside the window: the operand. -/
theorem scatter_outside {α : Type} (wf : ScatterDims.WF ⟨3, ![B, N, M]⟩ ⟨1, ![2]⟩ ⟨3, ![B, n, k]⟩ [0, 1, 2] [] [1, 2] 0)
    (x : (⟨3, ![B, N, M]⟩ : Shape).Idx → α) (idx : IVec ⟨1, ![2]⟩ 32) (u : (⟨3, ![B, n, k]⟩ : Shape).Idx → α)
    (r c : ℕ) (hr : (idx (ix1 0)).toInt = r) (hc : (idx (ix1 1)).toInt = c)
    (b : Fin B) (i' : Fin N) (j' : Fin M) (h : ∀ (i : Fin n) (j : Fin k), ¬ (r + i = i' ∧ c + j = (j' : ℕ))) :
    Host.scatter (dims wf) (fun _ y => y) x idx u (ix3 b i' j') = x (ix3 b i' j') := by
  refine Routing.scatter_set_miss _ _ _ _ _ fun p hp => ?_
  obtain ⟨b₁, i₁, j₁, rfl⟩ := exists_ix3 p
  exact h _ _ ((lands wf idx r c hr hc _ _ _ b i' j').1 hp).2

end Cert.Window
-- ==== Proof.Host.lean ====
/- The arrays that the host computes before the kernel runs, read at an index. -/
module

public import proofs.«01_k».proof.Proof.Config
public import proofs.«01_k».proof.Proof.Window
public import Idealize.ShloMosaic.Lib.StableHlo.ReadAt

@[expose] public section

noncomputable section

namespace Cert.KernelIdeal.Body

open Idealize.ShloMosaic Cert.KernelIdeal Cert.KernelIdeal.Gen Cert.Spec
open Idealize.ShloMosaic.TcCoe

variable (m : (ℓ : Loc nD τ sig) → Buf (Elt Ideal) ℓ) (c : Dev nD)

/-- The corner of a window, from its two words. -/
def corner (a b : IVec S1 32) : IVec S2 32 := concatenate S2 0 [⟨S1, a⟩, ⟨S1, b⟩] Facts₀.concatenates_S1_S1_S2_d0

/-- The join of two words is the corner. -/
theorem corner_fold (a b : IVec S1 32) (h) : concatenate S2 0 [⟨S1, a⟩, ⟨S1, b⟩] h = corner a b := rfl

/-- A corner of two constant words. -/
abbrev cornerAt (w w' : BitVec 32) : IVec S2 32 :=
  corner (broadcastInDim S1 ![] bcast_S_S1 (constantI S_ 32 w)) (broadcastInDim S1 ![] bcast_S_S1 (constantI S_ 32 w'))

/-- The first word of a corner. -/
theorem cornerAt_zero (w w' : BitVec 32) : cornerAt w w' (ix1 0) = w := rfl

/-- The second word of a corner. -/
theorem cornerAt_one (w w' : BitVec 32) : cornerAt w w' (ix1 1) = w' := rfl

/-- An argument of the kernel. -/
abbrev arg (r : Ref sig .tc) : Buf (Elt Ideal) ((c : Thread nD τ).loc r) := m ((c : Thread nD τ).loc r)

/-- One copy of the second layer's weights written into an array. -/
abbrev writePair (w : BitVec 32) (W : Vec Ideal S3x64x64 .f32) (x : Vec Ideal S3x128x128 .f32) : Vec Ideal S3x128x128 .f32 :=
  Host.scatter scatter_S3x128x128_S2_S3x64x64_012_n_12_0 (fun _ y => y) x (cornerAt w w) W

/-- One copy of the first layer's weights written into an array. -/
abbrev writeStacked (w w' : BitVec 32) (W : Vec Ideal S3x25x64 .f32) (x : Vec Ideal S3x100x256 .f32) : Vec Ideal S3x100x256 .f32 :=
  Host.scatter scatter_S3x100x256_S2_S3x25x64_012_n_12_0 (fun _ y => y) x (cornerAt w w') W

/-- The second layer's weights of the filters, as the host writes them: two copies. -/
theorem pairWeights : @Eq (Vec Ideal S3x128x128 .f32) (V m c main_call0_v30)
    (writePair 64#32 (arg m c main_arg5) (writePair 0#32 (arg m c main_arg5)
        (broadcastInDim S3x128x128 ![] bcast_S_S3x128x128 (constant (F := Ideal) S_ .f32 0#32)))) := by
  unfold V
  after_reads_simp
  simp only [corner_fold]
  after_reads_simp
  simp only [StableHlo.TRef.ofBuf_toBuf]
  simp only [StableHlo.TRef.toBuf, StableHlo.TRef.ofBuf, cast_eq]

/-- The first layer's weights of the filters, as the host writes them: four copies. -/
theorem stackedWeights : @Eq (Vec Ideal S3x100x256 .bf16) (V m c main_call0_v18)
    (truncf (F := Ideal) .bf16 (writeStacked 75#32 192#32 (arg m c main_arg3) (writeStacked 50#32 128#32 (arg m c main_arg3)
        (writeStacked 25#32 64#32 (arg m c main_arg3) (writeStacked 0#32 0#32 (arg m c main_arg3)
          (broadcastInDim S3x100x256 ![] bcast_S_S3x100x256 (constant (F := Ideal) S_ .f32 0#32)))))) bitsLt_bf16_f32) := by
  unfold V
  after_reads_simp
  simp only [corner_fold]
  after_reads_simp
  simp only [StableHlo.TRef.ofBuf_toBuf]
  simp only [StableHlo.TRef.toBuf, StableHlo.TRef.ofBuf, cast_eq]

/-- One copy of the second layer's weights at an element: the copy in its window, the array before elsewhere. -/
theorem writePair_apply (v₀ : Fin 2) (w : BitVec 32) (hw : w.toInt = 64 * (v₀ : ℕ)) (W : Vec Ideal S3x64x64 .f32)
    (x : Vec Ideal S3x128x128 .f32) (b : Fin 3) (v : Fin 2) (k : Fin 64) (v' : Fin 2) (f : Fin 64) :
    writePair w W x (ix3 b (fcol v k) (fcol v' f))
      = if v₀ = v ∧ v₀ = v' then W (ix3 b k f) else x (ix3 b (fcol v k) (fcol v' f)) := by
  have hv : ∀ v k, (fcol v k : ℕ) = 64 * v + k := cat_val _
  split
  · rename_i h
    obtain ⟨rfl, rfl⟩ := h
    exact Window.scatter_inside (scatter_S3x128x128_S2_S3x64x64_012_n_12_0).wf x (cornerAt w w) W (64 * v₀) (64 * v₀) hw hw b k f
      (fcol v₀ k) (fcol v₀ f) (hv _ _).symm (hv _ _).symm
  · rename_i h
    refine Window.scatter_outside (scatter_S3x128x128_S2_S3x64x64_012_n_12_0).wf x (cornerAt w w) W (64 * v₀) (64 * v₀) hw hw b
      (fcol v k) (fcol v' f) fun i j hij => ?_
    rw [hv, hv] at hij
    exact h ⟨Fin.ext (by omega), Fin.ext (by omega)⟩

/-- One copy of the first layer's weights at an element: the copy in its window, the array before elsewhere. -/
theorem writeStacked_apply (s₀ : Fin 4) (w w' : BitVec 32) (hw : w.toInt = 25 * (s₀ : ℕ)) (hw' : w'.toInt = 64 * (s₀ : ℕ))
    (W : Vec Ideal S3x25x64 .f32) (x : Vec Ideal S3x100x256 .f32) (b : Fin 3) (s : Fin 4) (g : Fin 25) (s' : Fin 4) (k : Fin 64) :
    writeStacked w w' W x (ix3 b (gcol s g) (hcol s' k))
      = if s₀ = s ∧ s₀ = s' then W (ix3 b g k) else x (ix3 b (gcol s g) (hcol s' k)) := by
  have hv : ∀ s g, (gcol s g : ℕ) = 25 * s + g := cat_val _
  have hv' : ∀ s k, (hcol s k : ℕ) = 64 * s + k := cat_val _
  split
  · rename_i h
    obtain ⟨rfl, rfl⟩ := h
    exact Window.scatter_inside (scatter_S3x100x256_S2_S3x25x64_012_n_12_0).wf x (cornerAt w w') W (25 * s₀) (64 * s₀) hw hw' b g k
      (gcol s₀ g) (hcol s₀ k) (hv _ _).symm (hv' _ _).symm
  · rename_i h
    refine Window.scatter_outside (scatter_S3x100x256_S2_S3x25x64_012_n_12_0).wf x (cornerAt w w') W (25 * s₀) (64 * s₀) hw hw' b
      (gcol s g) (hcol s' k) fun i j hij => ?_
    rw [hv, hv'] at hij
    exact h ⟨Fin.ext (by omega), Fin.ext (by omega)⟩

/-- The second layer's weights at an element: two copies on the diagonal. -/
theorem pairWeights_apply (b : Fin 3) (v : Fin 2) (k : Fin 64) (v' : Fin 2) (f : Fin 64) :
    (V m c main_call0_v30 : Vec Ideal S3x128x128 .f32) (ix3 b (fcol v k) (fcol v' f))
      = if v = v' then (arg m c main_arg5 : Vec Ideal S3x64x64 .f32) (ix3 b k f) else (0 : EReal) := by
  rw [pairWeights, writePair_apply 1 _ (by decide), writePair_apply 0 _ (by decide),
    show broadcastInDim S3x128x128 ![] bcast_S_S3x128x128 (constant (F := Ideal) S_ .f32 0#32) (ix3 b (fcol v k) (fcol v' f)) = 0 from zero_value]
  fin_cases v <;> fin_cases v' <;> simp

/-- The first layer's weights at an element: four copies on the diagonal. -/
theorem stackedWeights_apply (b : Fin 3) (s : Fin 4) (g : Fin 25) (s' : Fin 4) (k : Fin 64) :
    (V m c main_call0_v18 : Vec Ideal S3x100x256 .bf16) (ix3 b (gcol s g) (hcol s' k))
      = if s = s' then (arg m c main_arg3 : Vec Ideal S3x25x64 .f32) (ix3 b g k) else (0 : EReal) := by
  rw [stackedWeights, truncf_apply, writeStacked_apply 3 _ _ (by decide) (by decide), writeStacked_apply 2 _ _ (by decide) (by decide),
    writeStacked_apply 1 _ _ (by decide) (by decide), writeStacked_apply 0 _ _ (by decide) (by decide),
    show broadcastInDim S3x100x256 ![] bcast_S_S3x100x256 (constant (F := Ideal) S_ .f32 0#32) (ix3 b (gcol s g) (hcol s' k)) = 0 from zero_value]
  fin_cases s <;> fin_cases s' <;> simp

/-- The centers of the Gaussians, repeated for every group. -/
theorem centers_apply (s : Fin 4) (g : Fin 25) : (V m c main_call0_v48 : Vec Ideal S1x100 .f32) (ix2 0 (gcol s g)) = center g := by
  unfold V
  after_reads_at
  simp only [cat_mod]
  after_reads_at
  simp only [id, constant_apply]
  split
  · exact center_inner g (by assumption)
  · exact center_last g (by assumption)

/-- The host's word for the quotient of a word by a divisor, rounded down. -/
def quotient (w d : BitVec 32) : BitVec 32 :=
  Scalar.select
    (IntOp.andi
      (IntOp.cmpi .ne (if w = 0 then 0 else if w.msb = true then -1 else 1 : BitVec 32) (if d = 0 then 0 else if d.msb = true then -1 else 1))
      (IntOp.cmpi .ne (IntOp.remsi .host w d) 0#32))
    (IntOp.subi (IntOp.divsi .host w d) 1#32) (IntOp.divsi .host w d)

/-- The quotient of an atom by 32 is its group. -/
theorem quotient_atom : ∀ l : Fin 128, quotient (BitVec.ofNat 32 l) 32#32 = BitVec.ofNat 32 (l / 32) := by
  decide +kernel

/-- The quotient of a column by 25 is its group. -/
theorem quotient_column : ∀ q : Fin 100, quotient (BitVec.ofNat 32 q) 25#32 = BitVec.ofNat 32 (q / 25) := by
  decide +kernel

/-- The bit of a comparison of two small numbers, as a value of the host. -/
theorem bit_unsigned {a b : ℕ} (ha : a < 2 ^ 32) (hb : b < 2 ^ 32) :
    (FloatOps.uitofp .f32 (IntOp.cmpi .eq (BitVec.ofNat 32 a) (BitVec.ofNat 32 b)) : Ideal .f32) = if a = b then 1 else 0 := by
  rw [WordCmp.cmpi_eq_ofNat ha hb]
  by_cases h : a = b
  · simp only [h, decide_true, if_true]
    exact congrArg (fun z : ℕ => ((z : ℝ) : EReal)) (by decide : (BitVec.ofBool true).toNat = 1) |>.trans (by simp)
  · simp only [h, decide_false, if_false]
    exact congrArg (fun z : ℕ => ((z : ℝ) : EReal)) (by decide : (BitVec.ofBool false).toNat = 0) |>.trans (by simp)

/-- The table that marks the columns of each atom's group. -/
theorem groups_apply (s : Fin 4) (t : Fin 32) (s' : Fin 4) (g : Fin 25) :
    (V m c main_call0_v43 : Vec Ideal S128x100 .f32) (ix2 (atom s t) (gcol s' g)) = if s = s' then (1 : EReal) else 0 := by
  unfold V
  after_reads_at
  simp only [id, constantI_apply]
  change FloatOps.uitofp .f32 (IntOp.cmpi .eq (quotient (BitVec.ofNat 32 (atom s t)) 32#32) (quotient (BitVec.ofNat 32 (gcol s' g)) 25#32)) = _
  rw [quotient_atom, quotient_column, cat_div, cat_div, bit_unsigned (by omega) (by omega)]
  exact if_congr Fin.ext_iff.symm rfl rfl

/-- The atomic numbers, as the kernel is given them, are the argument. -/
theorem numbers_apply (a : Fin 16) (i : Fin 128) : V m c main_call0_v0 (ix3 a i 0) = (arg m c main_arg1 : Vec Ideal S16x128 .i32) (ix2 a i) := by
  unfold V
  after_reads_at
/-- The first bias, repeated four times, is the argument in each copy. -/
theorem stackedBias_apply (b : Fin 3) (s : Fin 4) (k : Fin 64) : V m c main_call0_v21 (ix2 b (hcol s k)) = (arg m c main_arg4 : Vec Ideal S3x64 .f32) (ix2 b k) := by
  unfold V
  after_reads_at
  refine congrArg (fun x => (arg m c main_arg4 : Vec Ideal S3x64 .f32) (ix2 b x)) (Fin.ext (cat_mod _ s k))
/-- The second bias, repeated twice, is the argument in each copy. -/
theorem pairBias_apply (b : Fin 3) (s : Fin 2) (k : Fin 64) : V m c main_call0_v33 (ix2 b (fcol s k)) = (arg m c main_arg6 : Vec Ideal S3x64 .f32) (ix2 b k) := by
  unfold V
  after_reads_at
  refine congrArg (fun x => (arg m c main_arg6 : Vec Ideal S3x64 .f32) (ix2 b x)) (Fin.ext (cat_mod _ s k))
end Cert.KernelIdeal.Body
-- ==== Proof.Array.lean ====
/- The kernel's result after the run: at each configuration the energy of the network in its first form. -/
module

public import proofs.«01_k».proof.Proof.Host
public import proofs.«01_k».proof.Proof.Net
public import proofs.«01_k».proof.Proof.Gen.KernelIdeal.Value
public import Idealize.ShloMosaic.Lib.Pipeline.ValueKit

@[expose] public section

noncomputable section

namespace Cert.KernelIdeal.Body

open Idealize.ShloMosaic Cert.KernelIdeal Cert.KernelIdeal.Gen Cert.Spec
open Idealize.ShloMosaic.TcCoe

variable (m : (ℓ : Loc nD τ sig) → Buf (Elt Ideal) ℓ) (c : Dev nD)

/-- The data that the kernel is given. -/
def data : Data :=
  Data.of (arg m c main_arg0) (arg m c main_arg1) (arg m c main_arg2) (arg m c main_arg3) (arg m c main_arg4) (arg m c main_arg5)
    (arg m c main_arg6) (arg m c main_arg7) (arg m c main_arg8) (arg m c main_arg9) (arg m c main_arg10) (arg m c main_arg11)
    (arg m c main_arg12) (arg m c main_arg13) (arg m c main_arg14) (arg m c main_arg15) (arg m c main_arg16)

/-- The blocks of the positions and the numbers step with the grid. -/
theorem index_config : ∀ t : Fin cfg0.N, win0_0.index t = ![t.val, 0, 0] ∧ win0_1.index t = ![t.val, 0, 0] ∧ win0_19.index t = ![t.val, 0, 0] :=
  (by decide +kernel : ∀ t : Fin grid0.N, _)

/-- The other blocks do not move. -/
theorem index_fixed : ∀ t : Fin cfg0.N, win0_2.index t = ![0, 0] ∧ win0_3.index t = ![0, 0] ∧ win0_4.index t = ![0, 0] ∧ win0_5.index t = ![0, 0, 0]
    ∧ win0_6.index t = ![0, 0] ∧ win0_7.index t = ![0, 0, 0] ∧ win0_8.index t = ![0, 0] ∧ win0_9.index t = ![0, 0, 0]
    ∧ win0_10.index t = ![0, 0] ∧ win0_11.index t = ![0, 0, 0] ∧ win0_12.index t = ![0, 0] ∧ win0_13.index t = ![0, 0, 0]
    ∧ win0_14.index t = ![0, 0] ∧ win0_15.index t = ![0, 0] ∧ win0_16.index t = ![0] ∧ win0_17.index t = ![0, 0] ∧ win0_18.index t = ![0] :=
  (by decide +kernel : ∀ t : Fin grid0.N, _)

/-- The block of the positions is one configuration. -/
theorem block_pos (t : Fin cfg0.N) (i : Fin 128) (d : Fin 3) : iblk m c 0 t (ix3 0 i d) = V m c main_arg0 (ix3 t i d) := by
  blk_simp [iblk]
  refine congrArg (V m c main_arg0) ?_
  blk_ext [index_config t]

/-- The block of the numbers is one configuration. -/
theorem block_num (t : Fin cfg0.N) (i : Fin 128) : iblk m c 1 t (ix3 0 i 0) = V m c main_call0_v0 (ix3 t i 0) := by
  blk_simp [iblk]
  refine congrArg (V m c main_call0_v0) ?_
  blk_ext [index_config t]

set_option maxHeartbeats 2000000 in
/-- Every other block is the whole of its array. -/
theorem block_fixed (t : Fin cfg0.N) :
    (∀ x, iblk m c 2 t x = V m c main_arg2 x)
    ∧ (∀ x, iblk m c 3 t x = V m c main_call0_v43 x)
    ∧ (∀ x, iblk m c 4 t x = V m c main_call0_v48 x)
    ∧ (∀ x, iblk m c 5 t x = V m c main_call0_v18 x)
    ∧ (∀ x, iblk m c 6 t x = V m c main_call0_v21 x)
    ∧ (∀ x, iblk m c 7 t x = V m c main_call0_v30 x)
    ∧ (∀ x, iblk m c 8 t x = V m c main_call0_v33 x)
    ∧ (∀ x, iblk m c 9 t x = V m c main_arg7 x)
    ∧ (∀ x, iblk m c 10 t x = V m c main_arg8 x)
    ∧ (∀ x, iblk m c 11 t x = V m c main_arg9 x)
    ∧ (∀ x, iblk m c 12 t x = V m c main_arg10 x)
    ∧ (∀ x, iblk m c 13 t x = V m c main_arg11 x)
    ∧ (∀ x, iblk m c 14 t x = V m c main_arg12 x)
    ∧ (∀ x, iblk m c 15 t x = V m c main_arg13 x)
    ∧ (∀ x, iblk m c 16 t x = V m c main_arg14 x)
    ∧ (∀ x, iblk m c 17 t x = V m c main_arg15 x)
    ∧ (∀ x, iblk m c 18 t x = V m c main_arg16 x) := by
  refine ⟨?_, ?_, ?_, ?_, ?_, ?_, ?_, ?_, ?_, ?_, ?_, ?_, ?_, ?_, ?_, ?_, ?_⟩ <;>
  · intro x
    blk_simp [iblk]
    refine congrArg (V m c _) ?_
    blk_ext [index_fixed t]

/-- The arrays that the kernel reads at a grid point hold the data of that configuration. -/
theorem staged (H : (data m c).Proper) (t : Fin cfg0.N) :
    Staged ((data m c).pos t) (fun i => species ((data m c).num t i)) (data m c).layer (iblk m c 0 t) (iblk m c 1 t) (iblk m c 3 t)
      (iblk m c 4 t) (iblk m c 5 t) (iblk m c 6 t) (iblk m c 7 t) (iblk m c 8 t) (iblk m c 9 t) (iblk m c 10 t) (iblk m c 11 t)
      (iblk m c 12 t) (iblk m c 13 t) (iblk m c 14 t) := by
  obtain ⟨-, h3, h4, h5, h6, h7, h8, h9, h10, h11, h12, h13, h14, -⟩ := block_fixed m c t
  exact
    { pos := fun a d => (block_pos m c t a d).trans (congrFun (V_main_arg0 m c) _)
      fin := H.pos t
      num := fun i => (block_num m c t i).trans ((numbers_apply m c t i).trans (species_word (H.num t i)))
      grp := fun s p s' g => (h3 _).trans (groups_apply m c s p s' g)
      cen := fun s g => (h4 _).trans (centers_apply m c s g)
      W1 := fun b s g s' k => (h5 _).trans (stackedWeights_apply m c b s g s' k)
      b1 := fun b s k => (h6 _).trans (stackedBias_apply m c b s k)
      W2 := fun b v k v' f => (h7 _).trans (pairWeights_apply m c b v k v' f)
      b2 := fun b v f => (h8 _).trans (pairBias_apply m c b v f)
      iW := fun b i f => (h9 _).trans (congrFun (V_main_arg7 m c) _)
      ib := fun b f => (h10 _).trans (congrFun (V_main_arg8 m c) _)
      oW := fun b f q => (h11 _).trans (congrFun (V_main_arg9 m c) _)
      ob := fun b q => (h12 _).trans (congrFun (V_main_arg10 m c) _)
      dW := fun b i q => (h13 _).trans (congrFun (V_main_arg11 m c) _)
      db := fun b q => (h14 _).trans (congrFun (V_main_arg12 m c) _) }

/-- What the kernel leaves at a grid point is the energy of that configuration. -/
theorem outs_apply (H : (data m c).Proper) (t : Fin cfg0.N) : outsAt0 m c t (ix3 0 0 0) = (data m c).all t := by
  obtain ⟨h2, -, -, -, -, -, -, -, -, -, -, -, -, h15, h16, h17, h18⟩ := block_fixed m c t
  have e2 : iblk m c 2 t = _ := (funext h2).trans (V_main_arg2 m c)
  have e15 : iblk m c 15 t = _ := (funext h15).trans (V_main_arg13 m c)
  have e16 : iblk m c 16 t = _ := (funext h16).trans (V_main_arg14 m c)
  have e17 : iblk m c 17 t = _ := (funext h17).trans (V_main_arg15 m c)
  have e18 : iblk m c 18 t = _ := (funext h18).trans (V_main_arg16 m c)
  rw [outs_eq, body_apply (staged m c H t), e2, e15, e16, e17, e18]
  rfl

/-- The result after the run: the energy of every configuration. -/
theorem final (H : (data m c).Proper) : (dats m 0 c).arrAt 19 cfg0.N = (fun j => (data m c).all (j 0) : Vec Ideal S16x1x1 .f32) := by
  refine (dats m 0 c).arrAt_eq_of_covers 19 _ (by decide +kernel) fun t hf y => ?_
  blk_simp
  rw [after0_19]
  have ht : ((win0_19.blk t).view.emb y 0 : ℕ) = t := by
    blk_simp [index_config t]
  obtain rfl : y = ix3 0 0 0 := funext fun a => by
    fin_cases a <;> exact Subsingleton.elim (α := Fin 1) _ _
  rw [show (win0_19.blk t).view.emb (ix3 0 0 0) 0 = (t : Fin 16) from Fin.ext ht]
  exact outs_apply m c H t

end Cert.KernelIdeal.Body
-- ==== Proof.Take.lean ====
/- Rows taken by an index word, as the reference takes them: the word wrapped and masked, and the three gathers read at
   an index. The table of the other atoms. -/
module

public import proofs.«01_k».proof.Proof.Net
public import proofs.«01_k».proof.Proof.Gen.ReferenceIdeal.Read
public import Idealize.ShloMosaic.Lib.ReduceAll
public import Idealize.ShloMosaic.Lib.WordCmp

@[expose] public section

noncomputable section

namespace Cert.ReferenceIdeal.Body

open Idealize.ShloMosaic Cert.ReferenceIdeal Cert.ReferenceIdeal.Gen Cert.ReferenceIdeal.Read Cert.Spec

/-- A small word read as a number and held below a bound that it keeps is the number. -/
theorem clamp_word (n N : ℕ) (h : n ≤ N) (hN : N < 2 ^ 31) : min (BitVec.ofNat 32 n).toInt.toNat N = n := by
  rw [WordCmp.toInt_ofNat_of_lt (by omega)]
  omega

/-- The gather of the embedding's rows. -/
theorem gather_emb (x : Vec Ideal S5x128 .f32) (idx : IVec S16x128x1 32) (c : Fin 16) (i : Fin 128) (q : Fin 128) (z : Fin 5)
    (h : idx (ix3 c i 0) = BitVec.ofNat 32 z) :
    Host.gather gather_S5x128_S16x128x1_S16x128x128_2_0_n_n_0_2_1128 x idx (ix3 c i q) = x (ix2 z q) := by
  have s0 : (gather_S5x128_S16x128x1_S16x128x128_2_0_n_n_0_2_1128).start (ix3 c i q) idx 0 = z := by
    refine Eq.trans ?_ (clamp_word z 4 (by omega) (by decide))
    rw [← h]
    refine congrArg (fun p => min (idx p).toInt.toNat 4) (funext fun a => ?_)
    fin_cases a <;> rfl
  refine congrArg x (funext fun a => Fin.ext ?_)
  fin_cases a
  · change (gather_S5x128_S16x128x1_S16x128x128_2_0_n_n_0_2_1128).start (ix3 c i q) idx 0 + 0 + 0 = z
    rw [s0]
    omega
  · change 0 + 0 + (q : ℕ) = q
    omega

/-- The gather of the differences of positions along the second atom, row by row of the first. -/
theorem gather_diff (x : Vec Ideal S16x128x128x3 .f32) (idx : IVec S128x127x1 32) (c : Fin 16) (i : Fin 128) (k : Fin 127)
    (d : Fin 3) (z : Fin 128) (h : idx (ix3 i k 0) = BitVec.ofNat 32 z) :
    Host.gather gather_S16x128x128x3_S128x127x1_S16x128x127x3_03_2_1_0_2_2_16113 x idx (ix4 c i k d) = x (ix4 c i z d) := by
  have s2 : (gather_S16x128x128x3_S128x127x1_S16x128x127x3_03_2_1_0_2_2_16113).start (ix4 c i k d) idx 2 = z := by
    refine Eq.trans ?_ (clamp_word z 127 (by omega) (by decide))
    rw [← h]
    refine congrArg (fun p => min (idx p).toInt.toNat 127) (funext fun a => ?_)
    fin_cases a <;> rfl
  refine congrArg x (funext fun a => Fin.ext ?_)
  fin_cases a
  · change 0 + 0 + (c : ℕ) = c
    omega
  · change 0 + (i : ℕ) + 0 = i
    omega
  · change (gather_S16x128x128x3_S128x127x1_S16x128x127x3_03_2_1_0_2_2_16113).start (ix4 c i k d) idx 2 + 0 + 0 = z
    rw [s2]
    omega
  · change 0 + 0 + (d : ℕ) = d
    omega

/-- The gather of the other atoms' features. -/
theorem gather_feat (x : Vec Ideal S16x128x64 .f32) (idx : IVec S16256x1 32) (c : Fin 16) (p : Fin 16256) (f : Fin 64)
    (z : Fin 128) (h : idx (ix2 p 0) = BitVec.ofNat 32 z) :
    Host.gather gather_S16x128x64_S16256x1_S16x16256x64_02_1_n_n_1_1_16164 x idx (ix3 c p f) = x (ix3 c z f) := by
  have s1 : (gather_S16x128x64_S16256x1_S16x16256x64_02_1_n_n_1_1_16164).start (ix3 c p f) idx 1 = z := by
    refine Eq.trans ?_ (clamp_word z 127 (by omega) (by decide))
    rw [← h]
    refine congrArg (fun p => min (idx p).toInt.toNat 127) (funext fun a => ?_)
    fin_cases a <;> rfl
  refine congrArg x (funext fun a => Fin.ext ?_)
  fin_cases a
  · change 0 + 0 + (c : ℕ) = c
    omega
  · change (gather_S16x128x64_S16256x1_S16x16256x64_02_1_n_n_1_1_16164).start (ix3 c p f) idx 1 + 0 + 0 = z
    rw [s1]
    omega
  · change 0 + 0 + (f : ℕ) = f
    omega

/-- A word that names a row of `n`, with `n` added where it is negative: the word. -/
abbrev wrap (n w : BitVec 32) : BitVec 32 := Scalar.select (IntOp.cmpi .slt w 0#32) (IntOp.addi w n) w

/-- The mask of a word: whether it lies from 0 to the last row. -/
abbrev within (l w : BitVec 32) : BitVec 1 := IntOp.andi (IntOp.cmpi .sge w 0#32) (IntOp.cmpi .sle w l)

/-- A row of the embedding is not wrapped. -/
theorem wrap_five : ∀ z : Fin 5, wrap 5#32 (BitVec.ofNat 32 z) = BitVec.ofNat 32 z := by decide +kernel

/-- A row of the embedding is within range. -/
theorem within_five : ∀ z : Fin 5, within 4#32 (BitVec.ofNat 32 z) = 1#1 := by decide +kernel

/-- An atom is not wrapped. -/
theorem wrap_atom : ∀ z : Fin 128, wrap 128#32 (BitVec.ofNat 32 z) = BitVec.ofNat 32 z := by decide +kernel

/-- An atom is within range. -/
theorem within_atom : ∀ z : Fin 128, within 127#32 (BitVec.ofNat 32 z) = 1#1 := by decide +kernel

/-- The table of the other atoms: its entry for an atom and a place is the place, counted past the atom itself. -/
theorem nbh_apply (i : Fin 128) (k : Fin 127) : val_main_v9 (F := Ideal) (ix2 i k) = BitVec.ofNat 32 (i.succAbove k) := by
  have e : val_main_v9 (F := Ideal) (ix2 i k)
      = IntOp.addi (BitVec.ofNat 32 k) (BitVec.setWidth 32 (IntOp.cmpi .sge (BitVec.ofNat 32 k) (BitVec.ofNat 32 i))) := by
    pointwise [val_main_v9, val_main_v8, val_main_v7, val_main_v6, val_main_v5, val_main_v4, val_main_v3, val_main_v2, val_main_v1, val_main_v0]
  rw [e, WordCmp.cmpi_sge_ofNat (by omega) (by omega)]
  unfold Fin.succAbove
  have hk : (BitVec.ofNat 32 (k : ℕ)).toNat = k := WordCmp.toNat_ofNat_of_lt (by omega)
  by_cases h : (i : ℕ) ≤ k
  · rw [if_neg (show ¬ k.castSucc < i from not_lt.2 h), decide_eq_true h]
    refine BitVec.eq_of_toNat_eq ?_
    rw [WordCmp.toNat_ofNat_of_lt (by omega)]
    change (BitVec.ofNat 32 (k : ℕ) + 1#32).toNat = (k : ℕ) + 1
    rw [BitVec.toNat_add, hk]
    change ((k : ℕ) + 1) % 4294967296 = _
    omega
  · rw [if_pos (show k.castSucc < i from not_le.1 h), decide_eq_false h]
    exact BitVec.add_zero _

/-- The place of an atom and one of its others in the flat list of pairs. -/
abbrev place (i : Fin 128) (k : Fin 127) : Fin 16256 := ⟨127 * i + k, by omega⟩

/-- Every place of the flat list is one of an atom and one of its others. -/
theorem exists_place (p : Fin 16256) : ∃ i k, p = place i k :=
  ⟨⟨p / 127, by omega⟩, ⟨p % 127, by omega⟩, Fin.ext (by change (p : ℕ) = 127 * (p / 127) + p % 127; omega)⟩

/-- The flat table of neighbours at the place of an atom and its k-th neighbour. -/
theorem flat_apply (i : Fin 128) (k : Fin 127) : val_main_v10 (F := Ideal) (ix1 (place i k)) = BitVec.ofNat 32 (i.succAbove k) := by
  rw [val_main_v10_apply, ← nbh_apply]
  refine congrArg _ (funext fun a => Fin.ext ?_)
  fin_cases a
  · change (127 * (i : ℕ) + k) / 127 = i
    omega
  · change (127 * (i : ℕ) + k) % 127 = k
    omega

/-- The word by which the features of another atom are taken. -/
theorem takeWord (i : Fin 128) (k : Fin 127) :
    val_main_call4_v5 (F := Ideal) (ix2 (place i k) 0) = BitVec.ofNat 32 (i.succAbove k) := by
  have e : val_main_call4_v5 (F := Ideal) (ix2 (place i k) 0) = wrap 128#32 (val_main_v10 (F := Ideal) (ix1 (place i k))) := by
    pointwise [val_main_call4_v5, val_main_call4_v4, val_main_call4_v3, val_main_call4_v2, val_main_call4_v1, val_main_call4_v0,
      val_main_call4_c, val_main_call4_c_0]
  rw [e, flat_apply, wrap_atom]

/-- No features are masked. -/
theorem takeMask (p : Fin 16256) : val_main_call4_v12 (F := Ideal) (ix1 p) = 1#1 := by
  refine Host.reduce_andi_one _ _ _ _ _ rfl fun j => ?_
  obtain ⟨p, rfl⟩ : ∃ p, j = ix2 p 0 := ⟨j 0, funext fun a => by
    fin_cases a
    · rfl
    · exact Fin.ext (by have := (j 1).isLt; change (j 1).val < 1 at this; change (j 1).val = 0; omega)⟩
  obtain ⟨i, k, rfl⟩ := exists_place p
  have e : val_main_call4_v11 (F := Ideal) (ix2 (place i k) 0) = within 127#32 (val_main_call4_v5 (F := Ideal) (ix2 (place i k) 0)) := by
    pointwise [val_main_call4_v11, val_main_call4_v10, val_main_call4_v9, val_main_call4_v8, val_main_call4_v7, val_main_call4_v6,
      val_main_call4_c_1, val_main_call4_c_2]
  rw [e, takeWord, within_atom]

/-- The word by which the difference to another atom is taken. -/
theorem alongWord (i : Fin 128) (k : Fin 127) :
    val_main_call1_v5 (F := Ideal) (ix3 i k 0) = BitVec.ofNat 32 (i.succAbove k) := by
  have e : val_main_call1_v5 (F := Ideal) (ix3 i k 0) = wrap 128#32 (val_main_v9 (F := Ideal) (ix2 i k)) := by
    rw [val_main_call1_v5_apply]
    have hi : idx_main_call1_v5 (ix3 i k (0 : Fin 1)) = ix4 (0 : Fin 1) i k (0 : Fin 1) := funext fun a => Fin.ext (by
      fin_cases a
      · rfl
      · change (((i : ℕ) * 127 + k) * 1 + 0) / 127 % 128 = i
        omega
      · change (((i : ℕ) * 127 + k) * 1 + 0) / 1 % 127 = k
        omega
      · rfl)
    rw [hi]
    pointwise [val_main_call1_v4, val_main_call1_v3, val_main_call1_v2, val_main_call1_v1, val_main_call1_v0, val_main_call1_c,
      val_main_call1_c_0, val_main_v17]
  rw [e, nbh_apply, wrap_atom]

/-- No difference is masked. -/
theorem alongMask (i : Fin 128) (k : Fin 127) : val_main_call1_v12 (F := Ideal) (ix2 i k) = 1#1 := by
  refine Host.reduce_andi_one _ _ _ _ _ rfl fun j => ?_
  obtain ⟨i, k, rfl⟩ : ∃ i k, j = ix3 i k 0 := ⟨j 0, j 1, funext fun a => by
    fin_cases a
    · rfl
    · rfl
    · exact Fin.ext (by have := (j 2).isLt; change (j 2).val < 1 at this; change (j 2).val = 0; omega)⟩
  have e : val_main_call1_v11 (F := Ideal) (ix3 i k 0) = within 127#32 (val_main_call1_v5 (F := Ideal) (ix3 i k 0)) := by
    pointwise [val_main_call1_v11, val_main_call1_v10, val_main_call1_v9, val_main_call1_v8, val_main_call1_v7, val_main_call1_v6,
      val_main_call1_c_1, val_main_call1_c_2]
  rw [e, alongWord, within_atom]

variable (x1 : Vec Ideal S16x128 .i32) (h1 : ∀ c i, (x1 (ix2 c i)).toNat < 5)

include h1

/-- The word by which an atom's row of the embedding is taken. -/
theorem embWord (c : Fin 16) (i : Fin 128) :
    val_main_call0_v5 (F := Ideal) x1 (ix3 c i 0) = BitVec.ofNat 32 (species (x1 (ix2 c i))) := by
  have e : val_main_call0_v5 (F := Ideal) x1 (ix3 c i 0) = wrap 5#32 (x1 (ix2 c i)) := by
    pointwise [val_main_call0_v5, val_main_call0_v4, val_main_call0_v3, val_main_call0_v2, val_main_call0_v1, val_main_call0_v0,
      val_main_call0_c, val_main_call0_c_0]
  rw [e]
  conv_lhs => rw [species_word (h1 c i)]
  exact wrap_five _

/-- No row of the embedding is masked. -/
theorem embMask (c : Fin 16) (i : Fin 128) : val_main_call0_v12 (F := Ideal) x1 (ix2 c i) = 1#1 := by
  refine Host.reduce_andi_one _ _ _ _ _ rfl fun j => ?_
  obtain ⟨c, i, rfl⟩ : ∃ c i, j = ix3 c i 0 := ⟨j 0, j 1, funext fun a => by
    fin_cases a
    · rfl
    · rfl
    · exact Fin.ext (by have := (j 2).isLt; change (j 2).val < 1 at this; change (j 2).val = 0; omega)⟩
  have e : val_main_call0_v11 (F := Ideal) x1 (ix3 c i 0) = within 4#32 (val_main_call0_v5 (F := Ideal) x1 (ix3 c i 0)) := by
    pointwise [val_main_call0_v11, val_main_call0_v10, val_main_call0_v9, val_main_call0_v8, val_main_call0_v7, val_main_call0_v6,
      val_main_call0_c_1, val_main_call0_c_2]
  rw [e, embWord x1 h1, within_five]

/-- The first vectors of the atoms: their rows of the embedding. -/
theorem first_apply (x2 : Vec Ideal S5x128 .f32) (c : Fin 16) (i q : Fin 128) :
    val_main_v11 (F := Ideal) x1 x2 (ix3 c i q) = x2 (ix2 (species (x1 (ix2 c i))) q) := by
  have e : val_main_v11 (F := Ideal) x1 x2 (ix3 c i q)
      = Scalar.select (val_main_call0_v12 (F := Ideal) x1 (ix2 c i)) (val_main_call0_v13 (F := Ideal) x1 x2 (ix3 c i q))
        (val_main_call0_v15 (F := Ideal) (ix3 c i q)) := by
    pointwise [val_main_v11, val_main_call0_v14]
  rw [e, embMask x1 h1 c i]
  exact gather_emb x2 _ c i q _ (embWord x1 h1 c i)

end Cert.ReferenceIdeal.Body
-- ==== Proof.Radial.lean ====
/- The distances of the atoms and the values of the Gaussians there, as the reference computes them. -/
module

public import proofs.«01_k».proof.Proof.Take

@[expose] public section

noncomputable section

namespace Cert.ReferenceIdeal.Body

open Idealize.ShloMosaic Cert.ReferenceIdeal Cert.ReferenceIdeal.Gen Cert.ReferenceIdeal.Read Cert.Spec

/-- The difference of the positions of an atom and one of its others. -/
theorem diff_apply (x0 : Vec Ideal S16x128x3 .f32) (c : Fin 16) (i : Fin 128) (k : Fin 127) (d : Fin 3) :
    val_main_v18 (F := Ideal) x0 (ix4 c i k d) = x0 (ix3 c i d) - x0 (ix3 c (i.succAbove k) d) := by
  have e : val_main_v18 (F := Ideal) x0 (ix4 c i k d)
      = Scalar.select (val_main_call1_v12 (F := Ideal) (ix2 i k)) (val_main_call1_v13 (F := Ideal) x0 (ix4 c i k d))
        (val_main_call1_v15 (F := Ideal) (ix4 c i k d)) := by
    pointwise [val_main_v18, val_main_call1_v14]
  rw [e, alongMask]
  refine (gather_diff (val_main_v16 (F := Ideal) x0) _ c i k d _ (alongWord i k)).trans ?_
  pointwise [val_main_v16, val_main_v15, val_main_v14, val_main_v13, val_main_v12]

/-- The distance of an atom and one of its others. -/
theorem dist_apply (x0 : Vec Ideal S16x128x3 .f32) (c : Fin 16) (i : Fin 128) (k : Fin 127) :
    val_main_v19 (F := Ideal) x0 (ix3 c i k) = Spec.dist (fun d => x0 (ix3 c i d)) (fun d => x0 (ix3 c (i.succAbove k) d)) := by
  unfold Spec.dist
  pointwise [val_main_v19, val_main_call2_v1, val_main_call2_v0, val_main_call2_cst]
  simp only [diff_apply]

/-- The centers of the Gaussians, as the reference computes them. -/
theorem center_apply (g : Fin 25) : val_main_v20 (F := Ideal) (ix1 g) = center g := by
  pointwise [val_main_v20, val_main_call3_v15, val_main_call3_v16, val_main_call3_v14, val_main_call3_v13, val_main_call3_v12,
    val_main_call3_v11, val_main_call3_v10, val_main_call3_v9, val_main_call3_v8, val_main_call3_v7, val_main_call3_v6,
    val_main_call3_v5, val_main_call3_v4, val_main_call3_cst_0, val_main_call3_cst_1, val_main_call3_v1, val_main_call3_v0,
    val_main_cst, val_main_cst_0]
  split
  · exact center_inner g (by assumption)
  · exact center_last g (by assumption)

/-- The word of one half. -/
theorem half_value : Ideal.ofBits .f32 0x3F000000#32 = ((1 / 2 : ℝ) : EReal) := by
  simp [Ideal.ofBits, Ideal.ieee, -EReal.coe_mul]
  norm_num

/-- The factor in the exponent, as the reference computes it from the first two centers. -/
theorem alpha_apply : val_main_v28 (F := Ideal) ix0 = negAlpha := by
  have e : val_main_v28 (F := Ideal) ix0
      = - Ideal.div (Ideal.ofBits .f32 0x3F000000#32) ((val_main_v20 (F := Ideal) (ix1 1) - val_main_v20 (F := Ideal) (ix1 0))
          * (val_main_v20 (F := Ideal) (ix1 1) - val_main_v20 (F := Ideal) (ix1 0))) := by
    pointwise [val_main_v28, val_main_v27, val_main_v26, val_main_v25, val_main_v24, val_main_v23, val_main_v22, val_main_v21,
      val_main_cst_1]
  have h1 : center 1 - center 0 = ((5 / 24 : ℝ) : EReal) := by
    unfold center
    rw [← EReal.coe_sub]
    congr 1
    norm_num
  rw [e, center_apply, center_apply, h1, half_value, ← EReal.coe_mul, Ideal.div_coe (by norm_num), ← EReal.coe_mul, ← EReal.coe_neg, negAlpha]
  congr 1
  norm_num

/-- The values of the Gaussians at the distance of an atom and one of its others. -/
theorem gauss_apply (x0 : Vec Ideal S16x128x3 .f32) (c : Fin 16) (i : Fin 128) (k : Fin 127) (g : Fin 25) :
    val_main_v37 (F := Ideal) x0 (ix4 c i k g)
      = gauss (Spec.dist (fun d => x0 (ix3 c i d)) (fun d => x0 (ix3 c (i.succAbove k) d))) g := by
  unfold gauss
  rw [← dist_apply, ← center_apply, ← alpha_apply]
  pointwise [val_main_v37, val_main_v36, val_main_v35, val_main_v34, val_main_v33, val_main_v32, val_main_v31, val_main_v30, val_main_v29]

end Cert.ReferenceIdeal.Body
-- ==== Proof.Step.lean ====
/- One interaction block of the reference, as a function of the arrays it reads, and its values. -/
module

public import proofs.«01_k».proof.Proof.Radial

@[expose] public section

noncomputable section

namespace Cert.ReferenceIdeal.Body

open Idealize.ShloMosaic Cert.ReferenceIdeal Cert.ReferenceIdeal.Gen Cert.ReferenceIdeal.Read Cert.Spec

variable (x0 : FVec Ideal S16x128x3 .f32) (W1 : FVec Ideal S25x64 .f32) (b1 : FVec Ideal S64 .f32) (W2 : FVec Ideal S64x64 .f32)
  (b2 : FVec Ideal S64 .f32) (iW : FVec Ideal S128x64 .f32) (ib : FVec Ideal S64 .f32) (oW : FVec Ideal S64x128 .f32)
  (ob : FVec Ideal S128 .f32) (dW : FVec Ideal S128x128 .f32) (db : FVec Ideal S128 .f32) (x : FVec Ideal S16x128x128 .f32)

/-- The layer that the arrays of one block hold. -/
def layerOf : Layer where
  fW1 g k := W1 (ix2 g k)
  fb1 k := b1 (ix1 k)
  fW2 k f := W2 (ix2 k f)
  fb2 f := b2 (ix1 f)
  iW q f := iW (ix2 q f)
  ib f := ib (ix1 f)
  oW f q := oW (ix2 f q)
  ob q := ob (ix1 q)
  dW k q := dW (ix2 k q)
  db q := db (ix1 q)

/-- The reference's values of the Gaussians for all pairs. -/
abbrev gaussians : FVec Ideal S16x128x127x25 .f32 := val_main_v37 (F := Ideal) x0

/-- The reference's filters of all pairs. -/
def filters : FVec Ideal S16x128x127x64 .f32 :=
  addf (Host.dotGeneral dot_S16x128x127x64_S64x64_S16x128x127x64_3_0_012_1_n_n none
      (Host.tanh (addf (Host.dotGeneral dot_S16x128x127x25_S25x64_S16x128x127x64_3_0_012_1_n_n none (gaussians x0) W1)
        (broadcastInDim S16x128x127x64 ![0, 1, 2, 3] bcast_S1x1x1x64_S16x128x127x64_0_1_2_3
          (broadcastInDim S1x1x1x64 ![3] bcast_S64_S1x1x1x64_3 b1)))) W2)
    (broadcastInDim S16x128x127x64 ![0, 1, 2, 3] bcast_S1x1x1x64_S16x128x127x64_0_1_2_3
      (broadcastInDim S1x1x1x64 ![3] bcast_S64_S1x1x1x64_3 b2))

/-- The reference's features of all atoms. -/
def feats : FVec Ideal S16x128x64 .f32 :=
  addf (Host.dotGeneral dot_S16x128x128_S128x64_S16x128x64_2_0_01_1_n_n none x iW)
    (broadcastInDim S16x128x64 ![0, 1, 2] bcast_S1x1x64_S16x128x64_0_1_2 (broadcastInDim S1x1x64 ![2] bcast_S64_S1x1x64_2 ib))

/-- Features of the atoms, taken for all pairs. -/
def taken (y : FVec Ideal S16x128x64 .f32) : FVec Ideal S16x16256x64 .f32 :=
  select (val_main_call4_v14 (F := Ideal))
    (Host.gather gather_S16x128x64_S16256x1_S16x16256x64_02_1_n_n_1_1_16164 y (val_main_call4_v5 (F := Ideal)))
    (val_main_call4_v15 (F := Ideal))

/-- The reference's messages, from the taken features and the filters. -/
def messages (y : FVec Ideal S16x16256x64 .f32) (w : FVec Ideal S16x128x127x64 .f32) : FVec Ideal S16x128x64 .f32 :=
  Host.reduceAdd (mulf (shapeCast _ y shapeCasts_S16x16256x64_S16x128x127x64) w) (val_main_cst_2 (F := Ideal))
    reducesTo_S16x128x127x64_S16x128x64_d2 h_S_

/-- The reference's new vectors, from the vectors and the messages. -/
def updated (y : FVec Ideal S16x128x64 .f32) : FVec Ideal S16x128x128 .f32 :=
  addf x (addf (Host.dotGeneral dot_S16x128x128_S128x128_S16x128x128_2_0_01_1_n_n none
      (Host.tanh (addf (Host.dotGeneral dot_S16x128x64_S64x128_S16x128x128_2_0_01_1_n_n none y oW)
        (broadcastInDim S16x128x128 ![0, 1, 2] bcast_S1x1x128_S16x128x128_0_1_2 (broadcastInDim S1x1x128 ![2] bcast_S128_S1x1x128_2 ob))))
      dW)
    (broadcastInDim S16x128x128 ![0, 1, 2] bcast_S1x1x128_S16x128x128_0_1_2 (broadcastInDim S1x1x128 ![2] bcast_S128_S1x1x128_2 db)))

/-- One block of the reference. -/
def block : FVec Ideal S16x128x128 .f32 :=
  updated oW ob dW db x (messages (taken (feats iW ib x)) (filters x0 W1 b1 W2 b2))

/-- The reference's filters: those of the layer at the distances of the pairs. -/
theorem filters_apply (c : Fin 16) (i : Fin 128) (k : Fin 127) (f : Fin 64) :
    filters x0 W1 b1 W2 b2 (ix4 c i k f)
      = (layerOf W1 b1 W2 b2 iW ib oW ob dW db).filter
        (Spec.dist (fun d => x0 (ix3 c i d)) (fun d => x0 (ix3 c (i.succAbove k) d))) f := by
  have e : filters x0 W1 b1 W2 b2 (ix4 c i k f)
      = ∑ h : Fin 64, Ideal.tanh (∑ g : Fin 25, gaussians x0 (ix4 c i k g) * W1 (ix2 g h) + b1 (ix1 h)) * W2 (ix2 h f)
        + b2 (ix1 f) := by
    pointwise [filters]
  rw [e]
  simp only [gauss_apply]
  rfl

/-- The reference's features: those of the layer. -/
theorem feats_apply (c : Fin 16) (i : Fin 128) (f : Fin 64) :
    feats iW ib x (ix3 c i f) = (layerOf W1 b1 W2 b2 iW ib oW ob dW db).feat (fun i q => x (ix3 c i q)) i f := by
  pointwise [feats]
  rfl

/-- The taken features of a pair: those of the other atom. -/
theorem taken_apply (y : FVec Ideal S16x128x64 .f32) (c : Fin 16) (i : Fin 128) (k : Fin 127) (f : Fin 64) :
    taken y (ix3 c (place i k) f) = y (ix3 c (i.succAbove k) f) := by
  have e : taken y (ix3 c (place i k) f)
      = Scalar.select (val_main_call4_v12 (F := Ideal) (ix1 (place i k)))
        (Host.gather gather_S16x128x64_S16256x1_S16x16256x64_02_1_n_n_1_1_16164 y (val_main_call4_v5 (F := Ideal)) (ix3 c (place i k) f))
        (val_main_call4_v15 (F := Ideal) (ix3 c (place i k) f)) := by
    pointwise [taken, val_main_call4_v14]
  rw [e, takeMask]
  exact gather_feat y _ c (place i k) f _ (takeWord i k)

/-- The reference's messages: the products summed over the other atoms. -/
theorem messages_apply (y : FVec Ideal S16x16256x64 .f32) (w : FVec Ideal S16x128x127x64 .f32) (c : Fin 16) (i : Fin 128) (f : Fin 64) :
    messages y w (ix3 c i f) = ∑ k : Fin 127, y (ix3 c (place i k) f) * w (ix4 c i k f) := by
  pointwise [messages, val_main_cst_2]
  refine Finset.sum_congr rfl fun k _ => congrArg (· * _) ?_
  refine congrArg (fun p => y (ix3 c p f)) (Fin.ext ?_)
  change (i : ℕ) * 127 + k = 127 * i + k
  omega

/-- The reference's new vectors: those of the layer. -/
theorem updated_apply (y : FVec Ideal S16x128x64 .f32) (c : Fin 16) (i q : Fin 128) :
    updated oW ob dW db x y (ix3 c i q)
      = (layerOf W1 b1 W2 b2 iW ib oW ob dW db).update (fun i q => x (ix3 c i q)) (fun i f => y (ix3 c i f)) i q := by
  pointwise [updated]
  rfl

/-- One block of the reference: the step of its layer over the other atoms. -/
theorem block_apply (c : Fin 16) (i q : Fin 128) :
    block x0 W1 b1 W2 b2 iW ib oW ob dW db x (ix3 c i q)
      = (layerOf W1 b1 W2 b2 iW ib oW ob dW db).stepOthers
        (fun i j => Spec.dist (fun d => x0 (ix3 c i d)) (fun d => x0 (ix3 c j d))) (fun i q => x (ix3 c i q)) i q := by
  unfold block Layer.stepOthers Layer.messOthers
  rw [updated_apply W1 b1 W2 b2 iW ib]
  simp only [messages_apply, taken_apply, feats_apply W1 b1 W2 b2 iW ib oW ob dW db, filters_apply x0 W1 b1 W2 b2 iW ib oW ob dW db]

end Cert.ReferenceIdeal.Body
-- ==== Proof.Result.lean ====
/- The reference's three blocks and its output network: its result is the energy with the messages summed over the
   other atoms. -/
module

public import proofs.«01_k».proof.Proof.Step

@[expose] public section

noncomputable section

namespace Cert.ReferenceIdeal.Body

open Idealize.ShloMosaic Cert.ReferenceIdeal Cert.ReferenceIdeal.Gen Cert.ReferenceIdeal.Read Cert.Spec

/-- One matrix of a stack of matrices. -/
def matrix {B N M : ℕ} (b : Fin B) (x : FVec Ideal ⟨3, ![B, N, M]⟩ .f32)
    (hs : (⟨3, ![B, N, M]⟩ : Shape).Slices ![(b : ℕ), 0, 0] ⟨3, ![1, N, M]⟩)
    (hc : (⟨3, ![1, N, M]⟩ : Shape).ShapeCasts ⟨2, ![N, M]⟩) : FVec Ideal ⟨2, ![N, M]⟩ .f32 :=
  shapeCast ⟨2, ![N, M]⟩ (extractStridedSlice ⟨3, ![1, N, M]⟩ ![(b : ℕ), 0, 0] x hs) hc

/-- An element of one matrix of a stack. -/
theorem matrix_apply {B N M : ℕ} (b : Fin B) (x : FVec Ideal ⟨3, ![B, N, M]⟩ .f32)
    (hs : (⟨3, ![B, N, M]⟩ : Shape).Slices ![(b : ℕ), 0, 0] ⟨3, ![1, N, M]⟩)
    (hc : (⟨3, ![1, N, M]⟩ : Shape).ShapeCasts ⟨2, ![N, M]⟩) (i : Fin N) (j : Fin M) : matrix b x hs hc (ix2 i j) = x (ix3 b i j) := by
  refine (shapeCast_apply _ hc (ix2 i j) (ix3 0 i j) ?_).trans
    (extractStridedSlice_apply _ x hs (ix3 0 i j) (ix3 b i j) fun a => ?_)
  · rw [Shape.rowMajor_val_three, Shape.rowMajor_val_two]
    change (0 * N + (i : ℕ)) * M + j = i * M + j
    rw [zero_mul, zero_add]
  · fin_cases a
    · rfl
    · exact (zero_add _).symm
    · exact (zero_add _).symm

/-- One row of a matrix. -/
def row {B N : ℕ} (b : Fin B) (x : FVec Ideal ⟨2, ![B, N]⟩ .f32) (hs : (⟨2, ![B, N]⟩ : Shape).Slices ![(b : ℕ), 0] ⟨2, ![1, N]⟩)
    (hc : (⟨2, ![1, N]⟩ : Shape).ShapeCasts ⟨1, ![N]⟩) : FVec Ideal ⟨1, ![N]⟩ .f32 :=
  shapeCast ⟨1, ![N]⟩ (extractStridedSlice ⟨2, ![1, N]⟩ ![(b : ℕ), 0] x hs) hc

/-- An element of one row of a stack. -/
theorem row_apply {B N : ℕ} (b : Fin B) (x : FVec Ideal ⟨2, ![B, N]⟩ .f32) (hs : (⟨2, ![B, N]⟩ : Shape).Slices ![(b : ℕ), 0] ⟨2, ![1, N]⟩)
    (hc : (⟨2, ![1, N]⟩ : Shape).ShapeCasts ⟨1, ![N]⟩) (i : Fin N) : row b x hs hc (ix1 i) = x (ix2 b i) := by
  refine (shapeCast_apply _ hc (ix1 i) (ix2 0 i) ?_).trans
    (extractStridedSlice_apply _ x hs (ix2 0 i) (ix2 b i) fun a => ?_)
  · rw [Shape.rowMajor_val_two, Shape.rowMajor_val_one]
    change 0 * N + (i : ℕ) = i
    rw [zero_mul, zero_add]
  · fin_cases a
    · rfl
    · exact (zero_add _).symm

variable (x0 : FVec Ideal S16x128x3 .f32) (x1 : IVec S16x128 32) (x2 : FVec Ideal S5x128 .f32) (x3 : FVec Ideal S3x25x64 .f32)
  (x4 : FVec Ideal S3x64 .f32) (x5 : FVec Ideal S3x64x64 .f32) (x6 : FVec Ideal S3x64 .f32) (x7 : FVec Ideal S3x128x64 .f32)
  (x8 : FVec Ideal S3x64 .f32) (x9 : FVec Ideal S3x64x128 .f32) (x10 : FVec Ideal S3x128 .f32) (x11 : FVec Ideal S3x128x128 .f32)
  (x12 : FVec Ideal S3x128 .f32) (x13 : FVec Ideal S128x128 .f32) (x14 : FVec Ideal S128 .f32) (x15 : FVec Ideal S128x1 .f32)
  (x16 : FVec Ideal S1 .f32)

/-- The block `b` of the reference, its weights taken from the stacks of all blocks. -/
def blockAt (b : Fin 3) (x : FVec Ideal S16x128x128 .f32) : FVec Ideal S16x128x128 .f32 :=
  block x0
    (matrix b x3 (by fin_cases b <;> decide) shapeCasts_S1x25x64_S25x64) (row b x4 (by fin_cases b <;> decide) shapeCasts_S1x64_S64)
    (matrix b x5 (by fin_cases b <;> decide) shapeCasts_S1x64x64_S64x64) (row b x6 (by fin_cases b <;> decide) shapeCasts_S1x64_S64)
    (matrix b x7 (by fin_cases b <;> decide) shapeCasts_S1x128x64_S128x64) (row b x8 (by fin_cases b <;> decide) shapeCasts_S1x64_S64)
    (matrix b x9 (by fin_cases b <;> decide) shapeCasts_S1x64x128_S64x128) (row b x10 (by fin_cases b <;> decide) shapeCasts_S1x128_S128)
    (matrix b x11 (by fin_cases b <;> decide) shapeCasts_S1x128x128_S128x128) (row b x12 (by fin_cases b <;> decide) shapeCasts_S1x128_S128)
    x

/-- A block of the reference: the step of its layer over the other atoms. -/
theorem blockAt_apply (b : Fin 3) (x : FVec Ideal S16x128x128 .f32) (c : Fin 16) :
    (fun i q => blockAt x0 x3 x4 x5 x6 x7 x8 x9 x10 x11 x12 b x (ix3 c i q))
      = ((Data.of x0 x1 x2 x3 x4 x5 x6 x7 x8 x9 x10 x11 x12 x13 x14 x15 x16).layer b).stepOthers
        ((Data.of x0 x1 x2 x3 x4 x5 x6 x7 x8 x9 x10 x11 x12 x13 x14 x15 x16).dists c) fun i q => x (ix3 c i q) := by
  funext i q
  unfold blockAt
  rw [block_apply]
  unfold layerOf
  simp only [matrix_apply, row_apply]
  rfl

/-- The reference's result, as its three blocks and its output network. -/
theorem blocks :
    val_main_v178 (F := Ideal) x0 x1 x2 x3 x4 x5 x6 x7 x8 x9 x10 x11 x12
      = blockAt x0 x3 x4 x5 x6 x7 x8 x9 x10 x11 x12 2 (blockAt x0 x3 x4 x5 x6 x7 x8 x9 x10 x11 x12 1
        (blockAt x0 x3 x4 x5 x6 x7 x8 x9 x10 x11 x12 0 (val_main_v11 (F := Ideal) x1 x2))) := by
  have e0 : blockAt x0 x3 x4 x5 x6 x7 x8 x9 x10 x11 x12 0 (val_main_v11 (F := Ideal) x1 x2)
      = val_main_v84 (F := Ideal) x0 x1 x2 x3 x4 x5 x6 x7 x8 x9 x10 x11 x12 := rfl
  have e1 : blockAt x0 x3 x4 x5 x6 x7 x8 x9 x10 x11 x12 1 (val_main_v84 (F := Ideal) x0 x1 x2 x3 x4 x5 x6 x7 x8 x9 x10 x11 x12)
      = val_main_v131 (F := Ideal) x0 x1 x2 x3 x4 x5 x6 x7 x8 x9 x10 x11 x12 := rfl
  rw [e0, e1]
  rfl

/-- The reference's result at a configuration: the energy, each message summed over the other atoms. -/
theorem result_apply (h1 : ∀ c i, (x1 (ix2 c i)).toNat < 5) (c : Fin 16) :
    val_main_v189 (F := Ideal) x0 x1 x2 x3 x4 x5 x6 x7 x8 x9 x10 x11 x12 x13 x14 x15 x16 (ix3 c 0 0)
      = (Data.of x0 x1 x2 x3 x4 x5 x6 x7 x8 x9 x10 x11 x12 x13 x14 x15 x16).others c := by
  unfold Data.others
  have e : val_main_v189 (F := Ideal) x0 x1 x2 x3 x4 x5 x6 x7 x8 x9 x10 x11 x12 x13 x14 x15 x16 (ix3 c 0 0)
      = energy (Data.of x0 x1 x2 x3 x4 x5 x6 x7 x8 x9 x10 x11 x12 x13 x14 x15 x16).eW1
        (Data.of x0 x1 x2 x3 x4 x5 x6 x7 x8 x9 x10 x11 x12 x13 x14 x15 x16).eb1
        (Data.of x0 x1 x2 x3 x4 x5 x6 x7 x8 x9 x10 x11 x12 x13 x14 x15 x16).eW2
        (Data.of x0 x1 x2 x3 x4 x5 x6 x7 x8 x9 x10 x11 x12 x13 x14 x15 x16).eb2
        fun i q => val_main_v178 (F := Ideal) x0 x1 x2 x3 x4 x5 x6 x7 x8 x9 x10 x11 x12 (ix3 c i q) := by
    pointwise [val_main_v189, val_main_v188, val_main_v187, val_main_v186, val_main_v185, val_main_v184, val_main_v183, val_main_v182,
      val_main_v181, val_main_v180, val_main_v179, val_main_cst_5]
    rfl
  have ef : (fun i q => val_main_v11 (F := Ideal) x1 x2 (ix3 c i q))
      = (Data.of x0 x1 x2 x3 x4 x5 x6 x7 x8 x9 x10 x11 x12 x13 x14 x15 x16).first c :=
    funext fun i => funext fun q => first_apply x1 h1 x2 c i q
  rw [e, blocks]
  simp only [blockAt_apply x0 x1 x2 x3 x4 x5 x6 x7 x8 x9 x10 x11 x12 x13 x14 x15 x16, ef]

end Cert.ReferenceIdeal.Body
-- ==== Proof.Claims.lean ====
/- The claims of the certificate, each proved: the three programs run to the end and leave their arguments alone, the
   rewrite replaces one constant by its value, and the kernel's result is the reference's. -/
module

public import proofs.«01_k».proof.Proof.Proper
public import proofs.«01_k».proof.Proof.Array
public import proofs.«01_k».proof.Proof.Result
public import proofs.«01_k».proof.Proof.Gen.Kernel.Frame
public import proofs.«01_k».proof.Proof.Gen.KernelIdeal.Frame
public import proofs.«01_k».proof.Proof.Gen.KernelIdeal.Value
public import proofs.«01_k».proof.Proof.Gen.ReferenceIdeal.Run
public import proofs.«01_k».proof.Proof.Gen.ReferenceIdeal.Read
public import Idealize.ShloMosaic.Lib.Pipeline.ValueKit
public import Idealize.ShloMosaic.Lib.Claim

@[expose] public section

noncomputable section

namespace Cert.Proof

open Idealize.ShloMosaic Idealize.ShloMosaic.TcCoe Idealize.SL.Sem Cert.Spec

/-- The kernel as printed: every execution ends, with its arguments unchanged and every counter at zero. -/
theorem frame_kernel : Cert.quiescent_Kernel := fun m ρ _ => Cert.Kernel.Gen.frame m ρ

/-- The same of the kernel over the extended reals. -/
theorem frame_ideal : Cert.quiescent_KernelIdeal := fun m ρ _ => Cert.KernelIdeal.Gen.frame m ρ

/-- The same from the memories of which the precondition holds. -/
theorem frame_ideal_pre : Cert.quiescent_KernelIdeal_pre_finite_in_range := fun m ρ _ => frame_ideal m ρ trivial

/-- The same of the reference. -/
theorem frame_reference : Cert.quiescent_ReferenceIdeal := fun m ρ _ =>
  (θ_run Cert.ReferenceIdeal.defs _ _).mono (fun r h => ⟨fun c => (h c).2, sem_eq_zero_of_no_sems (by decide) r.2⟩)
    (Cert.ReferenceIdeal.Value.run (F := Ideal) m ρ)

/-- The same of the reference from the memories of which the precondition holds. -/
theorem frame_reference_pre : Cert.quiescent_ReferenceIdeal_pre_finite_in_range := fun m ρ _ => frame_reference m ρ trivial

/-- The one rewrite: the factor in the Gaussians' exponent has the value that the certificate states for it. -/
theorem preserves : Cert.preserves_Kernel_KernelIdeal :=
  IdealRules.named_const.statement Cert.KernelIdeal.κ "neg_alpha" .f32 0xC13851EC#32 ((-288 / 25 : ℝ) : EReal) rfl

/-- Arguments of which the precondition holds are proper data of the network. -/
theorem proper_data (m : (ℓ : Loc Cert.KernelIdeal.nD Cert.KernelIdeal.τ Cert.KernelIdeal.sig) → Buf (Elt Ideal) ℓ)
    (h : Cert.Pre_KernelIdeal_finite_in_range m) (c : Dev Cert.KernelIdeal.nD) : (Cert.KernelIdeal.Body.data m c).Proper :=
  Cert.Pre_finite_in_range.proper _ _ _ _ _ _ _ _ _ _ _ _ _ _ _ _ _ (h c)

/-- Over the extended reals the kernel's result is the reference's. -/
theorem algebraic : Cert.algebraic_KernelIdeal_ReferenceIdeal_pre_finite_in_range := by
  pair_intro
  · run_from Cert.KernelIdeal.Value.run_blocks m g
  · refine (θ_run Cert.ReferenceIdeal.defs _ _).mono (fun r hr c => ⟨(hr c).1.trans ?_, (hr c).2⟩)
      (Cert.ReferenceIdeal.Value.run (F := Ideal) m' g')
    have H := proper_data m hpre c
    rw [Cert.KernelIdeal.Body.final m c H]
    refine (Cert.ReferenceIdeal.Read.val_main_v189_eq (StableHlo.launchContents m' c)).trans ?_
    obtain ⟨h0, h1, h2, h3, h4, h5, h6, h7, h8, h9, h10, h11, h12, h13, h14, h15, h16⟩ := hagree c
    funext j
    obtain ⟨k, rfl⟩ : ∃ k : Fin 16, j = ix3 k 0 0 := ⟨j 0, funext fun a => by
      match a with
      | ⟨0, _⟩ => rfl
      | ⟨1, _⟩ => exact Subsingleton.elim (α := Fin 1) _ _
      | ⟨2, _⟩ => exact Subsingleton.elim (α := Fin 1) _ _⟩
    refine (Cert.ReferenceIdeal.Body.result_apply _ _ _ _ _ _ _ _ _ _ _ _ _ _ _ _ _ (fun c' i => ?_) k).trans ?_
    · exact lt_of_eq_of_lt (congrArg (fun x : IVec Cert.KernelIdeal.S16x128 32 => (x (ix2 c' i)).toNat) h1) (H.num c' i)
    · refine (congrArg (fun D : Data => D.others k) (?_ : _ = Cert.KernelIdeal.Body.data m c)).trans (H.all_eq k).symm
      unfold Cert.KernelIdeal.Body.data
      congr 1

end Cert.Proof

end
-- ==== Proof.lean ====
/- The proof of the certificate: Proof/Claims.lean proves each claim, and here they are put together with the shape facts
   that the programs and the precondition carry.
   - The kernel as printed, the kernel over the extended reals and the reference run to the end, leave their arguments
     unchanged and every counter at zero; the last two also from the memories of which the precondition holds.
   - The kernel over the extended reals differs from the printed one by one constant, which stands for the value stated.
   - Where the precondition holds, the kernel's result over the extended reals is the reference's. -/
module

public import proofs.«01_k».proof.Proof.Claims
public import proofs.«01_k».proof.Proof.Gen.Kernel
public import proofs.«01_k».proof.Proof.Gen.KernelIdeal
public import proofs.«01_k».proof.Proof.Gen.ReferenceIdeal

@[expose] public section

namespace Cert.Proof

/-- Every claim of the certificate. -/
theorem claim : Cert.Claim :=
  ⟨Cert.Kernel.Gen.facts, Cert.KernelIdeal.Gen.facts, Cert.ReferenceIdeal.Gen.facts, Cert.Pre_finite_in_range.facts,
    frame_kernel, frame_ideal, frame_ideal_pre, frame_reference, frame_reference_pre, preserves, algebraic⟩

end Cert.Proof

end
